-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v14_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x1024 : Shape := ⟨2, ![64, 1024]⟩
abbrev S64x32 : Shape := ⟨2, ![64, 32]⟩
abbrev S_ : Shape := ⟨0, ![]⟩
abbrev S1088x256 : Shape := ⟨2, ![1088, 256]⟩
abbrev S256 : Shape := ⟨1, ![256]⟩
abbrev S256x100000 : Shape := ⟨2, ![256, 100000]⟩
abbrev S100000 : Shape := ⟨1, ![100000]⟩
abbrev S32x256 : Shape := ⟨2, ![32, 256]⟩

class Facts : Prop where
  bcast_S_S64x1024 : S_.BroadcastsInDim S64x1024 (![] : Fin 0 → Fin S64x1024.rank)
  bcast_S_S64x32 : S_.BroadcastsInDim S64x32 (![] : Fin 0 → Fin S64x32.rank)
  bcast_S_S1088x256 : S_.BroadcastsInDim S1088x256 (![] : Fin 0 → Fin S1088x256.rank)
  bcast_S_S256 : S_.BroadcastsInDim S256 (![] : Fin 0 → Fin S256.rank)
  bcast_S_S256x100000 : S_.BroadcastsInDim S256x100000 (![] : Fin 0 → Fin S256x100000.rank)
  bcast_S_S100000 : S_.BroadcastsInDim S100000 (![] : Fin 0 → Fin S100000.rank)
  bcast_S_S32x256 : S_.BroadcastsInDim S32x256 (![] : Fin 0 → Fin S32x256.rank)

variable [Facts]

def fn_part1 {F : FTy → Type} [FloatOps F] (main_arg8 : FVec F S32x256 .f32) (main_v2 : IVec S64x1024 1) (main_v5 : IVec S64x32 1) (main_v8 : IVec S1088x256 1) (main_v11 : IVec S256 1) (main_v14 : IVec S256x100000 1) (main_v17 : IVec S100000 1) : IVec S64x1024 1 × IVec S64x32 1 × IVec S1088x256 1 × IVec S256 1 × IVec S256x100000 1 × IVec S100000 1 × IVec S32x256 1 :=
  let main_v18 : FVec F S32x256 .f32 := Host.absf main_arg8
  let main_cst_5 : FVec F S_ .f32 := constant S_ .f32 0x7F800000#32
  let main_v19 : FVec F S32x256 .f32 := broadcastInDim S32x256 ![] bcast_S_S32x256 main_cst_5
  let main_v20 : IVec S32x256 1 := cmpf .olt main_v18 main_v19
  (main_v2, main_v5, main_v8, main_v11, main_v14, main_v17, main_v20)

def fn {F : FTy → Type} [FloatOps F] (main_arg0 : FVec F S64x1024 .f32) (main_arg1 : FVec F S64x32 .f32) (main_arg2 : IVec S64x32 1) (main_arg3 : IVec S_ 32) (main_arg4 : FVec F S1088x256 .f32) (main_arg5 : FVec F S256 .f32) (main_arg6 : FVec F S256x100000 .f32) (main_arg7 : FVec F S100000 .f32) (main_arg8 : FVec F S32x256 .f32) : IVec S64x1024 1 × IVec S64x32 1 × IVec S1088x256 1 × IVec S256 1 × IVec S256x100000 1 × IVec S100000 1 × IVec S32x256 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_v3 : FVec F S64x32 .f32 := Host.absf main_arg1
  let main_cst_0 : FVec F S_ .f32 := constant S_ .f32 0x7F800000#32
  let main_v4 : FVec F S64x32 .f32 := broadcastInDim S64x32 ![] bcast_S_S64x32 main_cst_0
  let main_v5 : IVec S64x32 1 := cmpf .olt main_v3 main_v4
  let main_v6 : FVec F S1088x256 .f32 := Host.absf main_arg4
  let main_cst_1 : FVec F S_ .f32 := constant S_ .f32 0x7F800000#32
  let main_v7 : FVec F S1088x256 .f32 := broadcastInDim S1088x256 ![] bcast_S_S1088x256 main_cst_1
  let main_v8 : IVec S1088x256 1 := cmpf .olt main_v6 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x100000 .f32 := Host.absf main_arg6
  let main_cst_3 : FVec F S_ .f32 := constant S_ .f32 0x7F800000#32
  let main_v13 : FVec F S256x100000 .f32 := broadcastInDim S256x100000 ![] bcast_S_S256x100000 main_cst_3
  let main_v14 : IVec S256x100000 1 := cmpf .olt main_v12 main_v13
  let main_v15 : FVec F S100000 .f32 := Host.absf main_arg7
  let main_cst_4 : FVec F S_ .f32 := constant S_ .f32 0x7F800000#32
  let main_v16 : FVec F S100000 .f32 := broadcastInDim S100000 ![] bcast_S_S100000 main_cst_4
  let main_v17 : IVec S100000 1 := cmpf .olt main_v15 main_v16
  fn_part1 (F := F) main_arg8 main_v2 main_v5 main_v8 main_v11 main_v14 main_v17
-- ==== Kernel.lean ====
abbrev S64x1024 : Shape := ⟨2, ![64, 1024]⟩
abbrev S64x32 : Shape := ⟨2, ![64, 32]⟩
abbrev S_ : Shape := ⟨0, ![]⟩
abbrev S1088x256 : Shape := ⟨2, ![1088, 256]⟩
abbrev S256 : Shape := ⟨1, ![256]⟩
abbrev S256x100000 : Shape := ⟨2, ![256, 100000]⟩
abbrev S100000 : Shape := ⟨1, ![100000]⟩
abbrev S32x256 : Shape := ⟨2, ![32, 256]⟩
abbrev S64x1088 : Shape := ⟨2, ![64, 1088]⟩
abbrev S1x256 : Shape := ⟨2, ![1, 256]⟩
abbrev S1x100000 : Shape := ⟨2, ![1, 100000]⟩
abbrev S64x100000 : Shape := ⟨2, ![64, 100000]⟩
abbrev S64x1 : Shape := ⟨2, ![64, 1]⟩
abbrev S256x4096 : Shape := ⟨2, ![256, 4096]⟩
abbrev S1x4096 : Shape := ⟨2, ![1, 4096]⟩
abbrev S64x4096 : Shape := ⟨2, ![64, 4096]⟩
abbrev S64x256 : Shape := ⟨2, ![64, 256]⟩
abbrev S64 : Shape := ⟨1, ![64]⟩

abbrev nBuf : Space → Nat
  | .hbm => 35
  | .vmem => 20
  | .smem => 0
  | _ => 0

abbrev bufTy : (tb : Table) → Fin (tcTables nBuf tb) → BufTy
  | .hbm, ⟨0, _⟩ => ⟨S64x1024, .f32⟩
  | .hbm, ⟨1, _⟩ => ⟨S64x32, .f32⟩
  | .hbm, ⟨2, _⟩ => ⟨S64x32, .i1⟩
  | .hbm, ⟨3, _⟩ => ⟨S_, .i32⟩
  | .hbm, ⟨4, _⟩ => ⟨S1088x256, .f32⟩
  | .hbm, ⟨5, _⟩ => ⟨S256, .f32⟩
  | .hbm, ⟨6, _⟩ => ⟨S256x100000, .f32⟩
  | .hbm, ⟨7, _⟩ => ⟨S100000, .f32⟩
  | .hbm, ⟨8, _⟩ => ⟨S32x256, .f32⟩
  | .hbm, ⟨9, _⟩ => ⟨S64x32, .f32⟩
  | .hbm, ⟨10, _⟩ => ⟨S64x32, .f32⟩
  | .hbm, ⟨11, _⟩ => ⟨S64x1088, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x256, .f32⟩
  | .hbm, ⟨26, _⟩ => ⟨S256, .f32⟩
  | .hbm, ⟨27, _⟩ => ⟨S256, .f32⟩
  | .hbm, ⟨28, _⟩ => ⟨S1x256, .f32⟩
  | .hbm, ⟨29, _⟩ => ⟨S1x100000, .f32⟩
  | .hbm, ⟨30, _⟩ => ⟨S64x100000, .f32⟩
  | .hbm, ⟨31, _⟩ => ⟨S64x1, .f32⟩
  | .hbm, ⟨32, _⟩ => ⟨S64x1, .f32⟩
  | .hbm, ⟨33, _⟩ => ⟨S64x100000, .f32⟩
  | .hbm, ⟨34, _⟩ => ⟨S64, .f32⟩
  | .local _ .vmem, ⟨0, _⟩ => ⟨S64x1088, .f32⟩
  | .local _ .vmem, ⟨1, _⟩ => ⟨S1088x256, .f32⟩
  | .local _ .vmem, ⟨2, _⟩ => ⟨S1x256, .f32⟩
  | .local _ .vmem, ⟨3, _⟩ => ⟨S256x4096, .f32⟩
  | .local _ .vmem, ⟨4, _⟩ => ⟨S256x4096, .f32⟩
  | .local _ .vmem, ⟨5, _⟩ => ⟨S1x4096, .f32⟩
  | .local _ .vmem, ⟨6, _⟩ => ⟨S1x4096, .f32⟩
  | .local _ .vmem, ⟨7, _⟩ => ⟨S64x4096, .f32⟩
  | .local _ .vmem, ⟨8, _⟩ => ⟨S64x4096, .f32⟩
  | .local _ .vmem, ⟨9, _⟩ => ⟨S64x1, .f32⟩
  | .local _ .vmem, ⟨10, _⟩ => ⟨S64x1, .f32⟩
  | .local _ .vmem, ⟨11, _⟩ => ⟨S64x256, .f32⟩
  | .local _ .vmem, ⟨12, _⟩ => ⟨S64x1, .f32⟩
  | .local _ .vmem, ⟨13, _⟩ => ⟨S64x1, .f32⟩
  | .local _ .vmem, ⟨14, _⟩ => ⟨S64x1, .i32⟩
  | .local _ .vmem, ⟨15, _⟩ => ⟨S64x4096, .f32⟩
  | .local _ .vmem, ⟨16, _⟩ => ⟨S64x4096, .f32⟩
  | .local _ .vmem, ⟨17, _⟩ => ⟨S64x1, .f32⟩
  | .local _ .vmem, ⟨18, _⟩ => ⟨S64x4096, .f32⟩
  | .local _ .vmem, ⟨19, _⟩ => ⟨S64x4096, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_c_2 : Ref sig .tc := ⟨.hbm, 18, rfl⟩
abbrev main_v6 : Ref sig .tc := ⟨.hbm, 19, rfl⟩
abbrev main_c_3 : Ref sig .tc := ⟨.hbm, 20, rfl⟩
abbrev main_c_4 : Ref sig .tc := ⟨.hbm, 21, rfl⟩
abbrev main_v7 : Ref sig .tc := ⟨.hbm, 22, rfl⟩
abbrev main_c_5 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32_24 : BitVec 32 := 24#32
  let v54 : BitVec 1 := Scalar.cmpi .eq arg0 c24_i32_24
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1088 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1088x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S64x1024 : Shape := ⟨2, ![64, 1024]⟩
abbrev S64x32 : Shape := ⟨2, ![64, 32]⟩
abbrev S_ : Shape := ⟨0, ![]⟩
abbrev S1088x256 : Shape := ⟨2, ![1088, 256]⟩
abbrev S256 : Shape := ⟨1, ![256]⟩
abbrev S256x100000 : Shape := ⟨2, ![256, 100000]⟩
abbrev S100000 : Shape := ⟨1, ![100000]⟩
abbrev S32x256 : Shape := ⟨2, ![32, 256]⟩
abbrev S64x1088 : Shape := ⟨2, ![64, 1088]⟩
abbrev S64x256 : Shape := ⟨2, ![64, 256]⟩
abbrev S1x256 : Shape := ⟨2, ![1, 256]⟩
abbrev S64x100000 : Shape := ⟨2, ![64, 100000]⟩
abbrev S1x100000 : Shape := ⟨2, ![1, 100000]⟩
abbrev S64 : Shape := ⟨1, ![64]⟩
abbrev S64x1 : Shape := ⟨2, ![64, 1]⟩

abbrev nBuf : Space → Nat
  | .hbm => 73
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x32, .f32⟩
  | .hbm, ⟨2, _⟩ => ⟨S64x32, .i1⟩
  | .hbm, ⟨3, _⟩ => ⟨S_, .i32⟩
  | .hbm, ⟨4, _⟩ => ⟨S1088x256, .f32⟩
  | .hbm, ⟨5, _⟩ => ⟨S256, .f32⟩
  | .hbm, ⟨6, _⟩ => ⟨S256x100000, .f32⟩
  | .hbm, ⟨7, _⟩ => ⟨S100000, .f32⟩
  | .hbm, ⟨8, _⟩ => ⟨S32x256, .f32⟩
  | .hbm, ⟨9, _⟩ => ⟨S64x32, .f32⟩
  | .hbm, ⟨10, _⟩ => ⟨S64x32, .f32⟩
  | .hbm, ⟨11, _⟩ => ⟨S64x1088, .f32⟩
  | .hbm, ⟨12, _⟩ => ⟨S64x256, .f32⟩
  | .hbm, ⟨13, _⟩ => ⟨S1x256, .f32⟩
  | .hbm, ⟨14, _⟩ => ⟨S64x256, .f32⟩
  | .hbm, ⟨15, _⟩ => ⟨S64x256, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1x256, .f32⟩
  | .hbm, ⟨30, _⟩ => ⟨S256, .f32⟩
  | .hbm, ⟨31, _⟩ => ⟨S1x256, .f32⟩
  | .hbm, ⟨32, _⟩ => ⟨S64x256, .f32⟩
  | .hbm, ⟨33, _⟩ => ⟨S64x256, .f32⟩
  | .hbm, ⟨34, _⟩ => ⟨S_, .f32⟩
  | .hbm, ⟨35, _⟩ => ⟨S64x256, .f32⟩
  | .hbm, ⟨36, _⟩ => ⟨S64x256, .f32⟩
  | .hbm, ⟨37, _⟩ => ⟨S64x100000, .f32⟩
  | .hbm, ⟨38, _⟩ => ⟨S1x100000, .f32⟩
  | .hbm, ⟨39, _⟩ => ⟨S64x100000, .f32⟩
  | .hbm, ⟨40, _⟩ => ⟨S64x100000, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64x1, .f32⟩
  | .hbm, ⟨47, _⟩ => ⟨S64x100000, .f32⟩
  | .hbm, ⟨48, _⟩ => ⟨S64x100000, .f32⟩
  | .hbm, ⟨49, _⟩ => ⟨S64x100000, .f32⟩
  | .hbm, ⟨50, _⟩ => ⟨S_, .f32⟩
  | .hbm, ⟨51, _⟩ => ⟨S64, .f32⟩
  | .hbm, ⟨52, _⟩ => ⟨S64x1, .f32⟩
  | .hbm, ⟨53, _⟩ => ⟨S64x100000, .f32⟩
  | .hbm, ⟨54, _⟩ => ⟨S64x100000, .f32⟩
  | .hbm, ⟨55, _⟩ => ⟨S64x100000, .i32⟩
  | .hbm, ⟨56, _⟩ => ⟨S_, .f32⟩
  | .hbm, ⟨57, _⟩ => ⟨S_, .i32⟩
  | .hbm, ⟨58, _⟩ => ⟨S64, .f32⟩
  | .hbm, ⟨59, _⟩ => ⟨S64, .i32⟩
  | .hbm, ⟨60, _⟩ => ⟨S_, .f32⟩
  | .hbm, ⟨61, _⟩ => ⟨S64, .f32⟩
  | .hbm, ⟨62, _⟩ => ⟨S64x1, .f32⟩
  | .hbm, ⟨63, _⟩ => ⟨S64x100000, .f32⟩
  | .hbm, ⟨64, _⟩ => ⟨S64x100000, .f32⟩
  | .hbm, ⟨65, _⟩ => ⟨S64x100000, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_c_2 : Ref sig .tc := ⟨.hbm, 22, rfl⟩
abbrev main_v10 : Ref sig .tc := ⟨.hbm, 23, rfl⟩
abbrev main_c_3 : Ref sig .tc := ⟨.hbm, 24, rfl⟩
abbrev main_c_4 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_cst : Ref sig .tc := ⟨.hbm, 34, rfl⟩
abbrev main_call0_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_v0 : Ref sig .tc := ⟨.hbm, 55, rfl⟩
abbrev main_call1_cst : Ref sig .tc := ⟨.hbm, 56, rfl⟩
abbrev main_call1_c : Ref sig .tc := ⟨.hbm, 57, rfl⟩
abbrev main_call1_v1_0 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]
-- ==== Proof.Whole.lean ====
/-
  Loads and stores of a whole memref, stated over `owns` (a memref owned at the contents it reads): the form
  in which the kernel bodies are run.
-/
module

public import Idealize.ShloMosaic.Lib.Memref
public import Idealize.ShloMosaic.Lib.Tactic

@[expose] public section

noncomputable section

namespace Cert.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type}
variable {Name : Type} [DecidableEq Name] {U : Type} [URA U] {Lvl : Type} {Λ : Labels} [Preorder Lvl]
variable {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of a whole memref reads the contents it is owned at. -/
theorem wp_loadW {cs : CoreSpace} {m : Memref sig c.2.kind cs s e} {off : Fin s.rank → Nat}
    {inb : ∀ a, off a + s.size a ≤ s.size a} {hl : m.view.LoadsAt (Rect.unit off s.size inb).toLoadRect}
    {k : (s.Idx → Val e) → Prog (TpuEff nD τ sig Val Λ c.2) α} {q : PosShare TreeShare} {X : s.Idx → Val e}
    (h : off = fun _ => 0) :
    (owns c m q X : sProp (MT nD τ sig Ix Val Name U Lvl))
      ⊢ iprop((owns c m q X -∗ wp frame (wpE defs 𝒱 c bd) E (k X) Q)
        -∗ wp frame (wpE defs 𝒱 c bd) E (.op (.load m (Rect.unit off s.size inb).toLoadRect hl) k) Q) := by
  subst h
  unfold owns
  iintro ⟨%f, %hf, H⟩ Hk
  have hr : m.view.readAt Val (Rect.unit (fun _ => 0) s.size inb).toLoadRect f = X := by
    rw [← hf]; funext x
    show _ = m.view.read Val f x
    have hx : (Rect.whole s).emb x = x := Rect.emb_whole_apply _ x
    show m.view.read Val f ((Rect.whole s).emb x) = _
    rw [hx]
  have hw := wp_load (defs := defs) 𝒱 c bd (Γ := .empty) E (Q := Q) (m := m) (r := (Rect.unit (fun _ => 0) s.size inb).toLoadRect)
    (hl := hl) (k := k) (q := q) (f := f) (S := m.view.set) (by
      intro i hi
      obtain ⟨y, -, rfl⟩ := Finset.mem_map.mp hi
      exact Finset.mem_map.mpr ⟨y, Finset.mem_univ _, rfl⟩)
  rw [hr] at hw
  iapply hw $$ [H]
  · iexact H
  iintro H
  iapply Hk
  iexists f; isplitr; · ipureintro; exact hf
  iexact H

/-- An unmasked store to a whole memref leaves it owned at the payload. -/
theorem wp_storeW {cs : CoreSpace} {m : Memref sig c.2.kind cs s e} {off : Fin s.rank → Nat}
    {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e}
    (h : off = fun _ => 0) :
    (owns c m fullShare X : sProp (MT nD τ sig Ix Val Name U Lvl))
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  subst h
  unfold owns
  iintro ⟨%f, %hf, H⟩ Hk
  have hw := wp_store (defs := defs) 𝒱 c bd (Γ := .empty) E (Q := Q) (m := m) (r := Rect.unit (fun _ => 0) s.size inb)
    (w := w) (Mk := Finset.univ) (hx := hx) (hm := hm) (k := k) (f := f) (S := m.view.set) (by
      intro i hi
      obtain ⟨y, -, rfl⟩ := Finset.mem_map.mp hi
      exact Finset.mem_map.mpr ⟨_, Finset.mem_univ _, rfl⟩)
  iapply hw $$ [H]
  · iexact H
  iintro H
  iapply Hk
  iexists _
  isplitr
  swap
  · iexact H
  ipureintro
  funext x
  have hx' : (Rect.whole s).emb x = x := Rect.emb_whole_apply _ x
  have e1 := congrFun (View.read_write_univ (v := m.access (Rect.whole s)) (Val := Val) f w) x
  refine Eq.trans ?_ e1
  show m.view.read Val _ x = m.view.read Val _ ((Rect.whole s).emb x)
  rw [hx']
  rfl

omit [Preorder Lvl] in
/-- A whole buffer at contents `f` is its memref owned at `f`. -/
theorem owns_intro (b : Ref sig c.2.kind) (q : PosShare TreeShare) (f : Buf Val (c.loc b)) :
    ((c.loc b ↦{q} f) : sProp (MT nD τ sig Ix Val Name U Lvl)) ⊢ owns c (Memref.whole b) q f := by
  rw [owns_whole_eq]
  iintro H
  iexists f; isplitr; · ipureintro; rfl
  iexact H

omit [Preorder Lvl] in
/-- A whole memref owned at `X` is its buffer at some contents. -/
theorem owns_elim (b : Ref sig c.2.kind) (q : PosShare TreeShare) (X : b.ty.Contents Val) :
    (owns c (Memref.whole b) q X : sProp (MT nD τ sig Ix Val Name U Lvl)) ⊢ iprop(∃ f : Buf Val (c.loc b), (c.loc b) ↦{q} f) := by
  rw [owns_whole_eq]
  iintro ⟨%f, -, H⟩
  iexists f; iexact H

end Cert.Whole

end
-- ==== Proof.RegionHost.lean ====
/-
  A kernel region as a host segment: the region's entry contents need only be known up to a property, so the
  proof data of the region may depend on contents that an earlier region left unnamed.
-/
module

public import Idealize.ShloMosaic.Lib.Pipeline.SegConseq
public import Idealize.ShloMosaic.Lib.Pipeline.FrameTail

@[expose] public section

noncomputable section

namespace Cert.RegionHost

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline PCS

variable {nD : Nat} {τ : Topo} {sig : RefSig} {Val : EltTy → Type}
variable {Ix : Type} [DecidableEq Ix] {Name : Type} [DecidableEq Name] {U : Type} [URA U] {Lvl : Type} [Preorder Lvl]

variable {Λ₀ : Idealize.SL.Sem.Labels} {P : Type} [Fintype P] [DecidableEq P]
variable (pcs : P → PCfg sig Λ₀ Val) (a : (p : P) → (pcs p).Adm) (ι : Ix)
  (phinj : Function.Injective (Pipeline.cellOf (nD := nD) (τ := τ) (pin pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

/-- A stretch of host operations run from contents known only to satisfy `Pr`, to contents that satisfy `Pr'`. -/
def exOps (S : Finset (DevRef τ sig)) (ops : List (HloOp τ sig Val)) (hS : ∀ op ∈ ops, op.bufs ⊆ S)
    (hf : ∀ op ∈ ops, op.fresh = ∅) (Pr Pr' : Dev nD → Valuation τ sig Val → Prop)
    (h : ∀ c V, Pr c V → Pr' c (StableHlo.after ops V)) (X : Dev nD → sProp (MT nD τ sig Ix Val Name U Lvl)) :
    HostSeg (Ix := Ix) (Name := Name) (U := U) (Lvl := Lvl) pcs defs₀ 𝒱₀ L lv where
  prog := StableHlo.seq ops
  pre c := iprop((∃ V, ⌜Pr c V⌝ ∗ StableHlo.held (c.tc : Thread nD τ) S V) ∗ X c)
  post c := iprop((∃ V, ⌜Pr' c V⌝ ∗ StableHlo.held (c.tc : Thread nD τ) S V) ∗ X c)
  run c {β} k K := by
    iintro ⟨Hk, Hbd, ⟨⟨%V, %hV, Hh⟩, HX⟩, Hlv⟩
    have hw : iprop((iprop(boundary (c.tc : Thread nD τ) ∗ StableHlo.held (c.tc : Thread nD τ) S (StableHlo.after ops V) ∗ X c)
          -∗ wp frame (wpE (Pipeline.defs pcs defs₀) (Variants.lift 𝒱₀) (c.tc : Thread nD τ) none) Set.univ (k ⟨⟩) K)
        ∗ boundary (c.tc : Thread nD τ) ∗ (StableHlo.held (c.tc : Thread nD τ) S V ∗ X c) ∗ levAts L lv)
      ⊢ wp frame (wpE (Pipeline.defs pcs defs₀) (Variants.lift 𝒱₀) (c.tc : Thread nD τ) none) Set.univ (StableHlo.seq ops >>= k) K :=
      (HostSeg.ofOps (Ix := Ix) (Name := Name) (U := U) (Lvl := Lvl) pcs defs₀ 𝒱₀ L lv S ops hS hf (fun _ => V) X).run c k K
    iapply hw
    isplitl [Hk]
    · iintro ⟨Hbd, Hh, HX⟩
      iapply Hk
      isplitl [Hbd]; · iexact Hbd
      isplitl [Hh]
      · iexists _
        isplitr; · ipureintro; exact h c V hV
        iexact Hh
      iexact HX
    isplitl [Hbd]; · iexact Hbd
    isplitl [Hh HX]
    · isplitl [Hh]; · iexact Hh
      iexact HX
    iexact Hlv

variable [∀ e, Nonempty (Val e)] [Infinite Name]
variable [EP.LandsIn (upEmb : UEmb _ (MT nD τ sig Ix Val Name U Lvl))]
variable {Γ : Type} (Pr : Γ → Dev nD → Prop)
variable (rdats : Γ → (p : P) → (c : Dev nD) → Pipeline.RDat τ Val Ix Name U Lvl (Pipeline.pin pcs a p) c)
variable (p : P) (R : (γ : Γ) → Pipeline.RDat.RegionSeg pcs a (rdats γ) ι defs₀ 𝒱₀ L lv p)
variable (X : Dev nD → sProp (MT nD τ sig Ix Val Name U Lvl))

include phinj in
/-- Region `p`'s call, run from some region record of a family, whose index satisfies `Pr`, to the same; its rounds
    ghost state is handed over with the entry state, and `X` rides along. -/
theorem exRegion_run (c : Dev nD) {β : Type} (k : PUnit → Prog (TpuEff nD τ sig Val (Sig Λ₀ P fun p => (pcs p).Adm) .tc) β) (K : β → sProp (MT nD τ sig Ix Val Name U Lvl)) :
    iprop((iprop(boundary (c.tc : Thread nD τ) ∗ (∃ γ, ⌜Pr γ c⌝ ∗ (R γ).post c) ∗ X c)
          -∗ wp frame (wpE (Pipeline.defs pcs defs₀) (Variants.lift 𝒱₀) (c.tc : Thread nD τ) none) Set.univ (k ⟨⟩) K)
        ∗ boundary (c.tc : Thread nD τ)
        ∗ ((∃ γ, ⌜Pr γ c⌝ ∗ (R γ).pre c) ∗ (cellsGhost (pin pcs a) EP p c ∗ toksInit (pin pcs a) EP p c) ∗ X c) ∗ levAts L lv)
      ⊢ wp frame (wpE (Pipeline.defs pcs defs₀) (Variants.lift 𝒱₀) (c.tc : Thread nD τ) none) Set.univ
          ((Prog.lift (.customCall (entry p) ()) : Prog (TpuEff nD τ sig Val (Sig Λ₀ P fun p => (pcs p).Adm) .tc) PUnit) >>= k) K := by
  iintro ⟨Hk, Hbd, ⟨⟨%γ, %hγ, Hpre⟩, ⟨Hg, Ht⟩, HX⟩, Hlv⟩
  iapply (RDat.RegionSeg.wp pcs a (rdats γ) ι phinj EP defs₀ 𝒱₀ L lv (R γ) c none (fun _ h => nomatch h) k K)
  isplitl [Hk HX]
  · iintro ⟨Hbd, Hpost⟩
    iapply Hk
    isplitl [Hbd]; · iexact Hbd
    isplitl [Hpost]
    · iexists γ
      isplitr; · ipureintro; exact hγ
      iexact Hpost
    iexact HX
  isplitl [Hbd]; · iexact Hbd
  isplitl [Hpre]; · iexact Hpre
  isplitl [Hlv]; · iexact Hlv
  isplitl [Hg]; · iexact Hg
  iexact Ht

/-- `exRegion_run` as a host segment. -/
def exRegion : HostSeg (Ix := Ix) (Name := Name) (U := U) (Lvl := Lvl) pcs defs₀ 𝒱₀ L lv where
  prog := Prog.lift (.customCall (entry p) ())
  pre c := iprop((∃ γ, ⌜Pr γ c⌝ ∗ (R γ).pre c) ∗ (cellsGhost (pin pcs a) EP p c ∗ toksInit (pin pcs a) EP p c) ∗ X c)
  post c := iprop((∃ γ, ⌜Pr γ c⌝ ∗ (R γ).post c) ∗ X c)
  run c _ k K := exRegion_run pcs a ι phinj EP defs₀ 𝒱₀ L lv Pr rdats p R X c k K

end Cert.RegionHost
-- ==== Proof.BodyKernelIdeal.lean ====
/-
  What one grid point of each kernel computes, over any contents of its windows and scratch buffers and at any
  reading of the floats: the two kernel bodies run from top to bottom.
-/
module

public import proofs.«01_k».proof.Proof.Whole
public import proofs.«01_k».proof.Proof.Gen.KernelIdeal.Skeleton

@[expose] public section

set_option maxRecDepth 16384

noncomputable section

namespace Cert.KernelIdeal.Body

open Cert.KernelIdeal Cert.KernelIdeal.Gen Cert.Whole
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The first grid point: the hidden layer and the running maximum, sum and argmax start here. -/
def isFirst (i : grid0.Coords) : Prop :=
  Scalar.cmpi .ne (Scalar.extui (Scalar.cmpi .eq (BitVec.ofNat 32 (i 0).val) 0#32) : BitVec 32) 0#32 = 1#1
/-- The last grid point: the columns past the vocabulary are masked here. -/
def isLast (i : grid0.Coords) : Prop := k0_cond3 i = 1#1

instance (i : grid0.Coords) : Decidable (isFirst i) := inferInstanceAs (Decidable (_ = _))
instance (i : grid0.Coords) : Decidable (isLast i) := inferInstanceAs (Decidable (_ = _))

/-- The hidden layer the point works with: computed at the first point, carried afterwards. -/
def hid (i : grid0.Coords) (x : Vec F S64x1088 .f32) (w1 : Vec F S1088x256 .f32) (b1 : Vec F S1x256 .f32)
    (h : Vec F S64x256 .f32) : Vec F S64x256 .f32 := if isFirst i then k0_pay7 x w1 b1 else h
/-- The running maximum before the point's block. -/
def mOld (i : grid0.Coords) (m : Vec F S64x1 .f32) : Vec F S64x1 .f32 := if isFirst i then k0_pay8 else m
/-- The running sum before the point's block. -/
def sOld (i : grid0.Coords) (s : Vec F S64x1 .f32) : Vec F S64x1 .f32 := if isFirst i then k0_pay9 else s
/-- The running argmax before the point's block. -/
def aOld (i : grid0.Coords) (a : Vec F S64x1 .i32) : Vec F S64x1 .i32 := if isFirst i then k0_pay10 else a
/-- The point's block of logits, masked at the last point. -/
def lgt (i : grid0.Coords) (h : Vec F S64x256 .f32) (w2 : Vec F S256x4096 .f32) (b2 : Vec F S1x4096 .f32) :
    Vec F S64x4096 .f32 := if isLast i then k0_pay13 i h w2 b2 else k0_pay11 h w2 b2
/-- The running maximum after a block of logits `l`. -/
def mNew (l : Vec F S64x4096 .f32) (m : Vec F S64x1 .f32) : Vec F S64x1 .f32 := k0_pay4 (k0_pay14 l) m
/-- The running sum after a block of logits `l`. -/
def sNew (l : Vec F S64x4096 .f32) (m s : Vec F S64x1 .f32) : Vec F S64x1 .f32 := k0_pay3 (k0_pay14 l) (k0_pay15 l) m s
/-- The running argmax after a block of logits `l`. -/
def aNew (i : grid0.Coords) (l : Vec F S64x4096 .f32) (m : Vec F S64x1 .f32) (a : Vec F S64x1 .i32) : Vec F S64x1 .i32 :=
  k0_pay1 (k0_pay16 i l m a)
/-- The log-sum-exp window after the point: written at the last point. -/
def lseOut (i : grid0.Coords) (m s z : Vec F S64x1 .f32) : Vec F S64x1 .f32 := if isLast i then k0_pay5 m s else z
/-- The actions window after the point: written at the last point. -/
def actOut (i : grid0.Coords) (a : Vec F S64x1 .i32) (z : Vec F S64x1 .f32) : Vec F S64x1 .f32 :=
  if isLast i then k0_pay6 a else z

/-- The offsets of a whole block are zero. -/
theorem off2 : (![0, 0] : Fin 2 → Nat) = fun _ => 0 := funext fun a => by fin_cases a <;> rfl

section

variable {Ix : Type} [DecidableEq Ix] {Name : Type} [DecidableEq Name] {U : Type} [URA U] {Lvl : Type} [Preorder Lvl]
variable (𝒱 : Variants) (c : Dev nD) (E : Set Name)

set_option maxHeartbeats 4000000 in
/-- THE FIRST KERNEL'S BODY at a grid point, from any contents of its windows and scratch buffers: the inputs stay,
    the logits window ends at the point's block, the scratch buffers at the carried values, and the two small outputs
    are written at the last point only. -/
theorem logits_body (i : grid0.Coords)
    (a1 : Memref sig .tc .vmem S64x1088 .f32) (h1 : a1.IsWhole) (a2 : Memref sig .tc .vmem S1088x256 .f32) (h2 : a2.IsWhole)
    (a3 : Memref sig .tc .vmem S1x256 .f32) (h3 : a3.IsWhole) (a4 : Memref sig .tc .vmem S256x4096 .f32) (h4 : a4.IsWhole)
    (a5 : Memref sig .tc .vmem S1x4096 .f32) (h5 : a5.IsWhole) (a6 : Memref sig .tc .vmem S64x4096 .f32) (h6 : a6.IsWhole)
    (a7 : Memref sig .tc .vmem S64x1 .f32) (h7 : a7.IsWhole) (a8 : Memref sig .tc .vmem S64x1 .f32) (h8 : a8.IsWhole)
    (a9 : Memref sig .tc .vmem S64x256 .f32) (h9 : a9.IsWhole) (a10 : Memref sig .tc .vmem S64x1 .f32) (h10 : a10.IsWhole)
    (a11 : Memref sig .tc .vmem S64x1 .f32) (h11 : a11.IsWhole) (a12 : Memref sig .tc .vmem S64x1 .i32) (h12 : a12.IsWhole)
    (x1 : Vec F S64x1088 .f32) (x2 : Vec F S1088x256 .f32) (x3 : Vec F S1x256 .f32) (x4 : Vec F S256x4096 .f32)
    (x5 : Vec F S1x4096 .f32) (x6 : Vec F S64x4096 .f32) (x7 x8 : Vec F S64x1 .f32) (x9 : Vec F S64x256 .f32)
    (x10 x11 : Vec F S64x1 .f32) (x12 : Vec F S64x1 .i32)
    (K : PUnit → sProp (MT nD τ sig Ix (Elt F) Name U Lvl)) :
    iprop((owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ owns (c : Thread nD τ) a9 fullShare x9
        ∗ owns (c : Thread nD τ) a10 fullShare x10 ∗ owns (c : Thread nD τ) a11 fullShare x11 ∗ owns (c : Thread nD τ) a12 fullShare x12)
      ∗ ((owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5
        ∗ owns (c : Thread nD τ) a6 fullShare (lgt i (hid i x1 x2 x3 x9) x4 x5)
        ∗ owns (c : Thread nD τ) a7 fullShare (lseOut i (mNew (lgt i (hid i x1 x2 x3 x9) x4 x5) (mOld i x10))
            (sNew (lgt i (hid i x1 x2 x3 x9) x4 x5) (mOld i x10) (sOld i x11)) x7)
        ∗ owns (c : Thread nD τ) a8 fullShare (actOut i (aNew i (lgt i (hid i x1 x2 x3 x9) x4 x5) (mOld i x10) (aOld (F := F) i x12)) x8)
        ∗ owns (c : Thread nD τ) a9 fullShare (hid i x1 x2 x3 x9)
        ∗ owns (c : Thread nD τ) a10 fullShare (mNew (lgt i (hid i x1 x2 x3 x9) x4 x5) (mOld i x10))
        ∗ owns (c : Thread nD τ) a11 fullShare (sNew (lgt i (hid i x1 x2 x3 x9) x4 x5) (mOld i x10) (sOld i x11))
        ∗ owns (c : Thread nD τ) a12 fullShare (aNew i (lgt i (hid i x1 x2 x3 x9) x4 x5) (mOld i x10) (aOld (F := F) i x12))) -∗ K ⟨⟩))
      ⊢ wp frame (wpE (defs₀ (F := F)) 𝒱 (c : Thread nD τ) none) E
          (cc0__logits_kernel i a1 h1 a2 h2 a3 h3 a4 h4 a5 h5 a6 h6 a7 h7 a8 h8 a9 h9 a10 h10 a11 h11 a12 h12) K := by
  rw [cc0__logits_kernel_eq_skeleton]; unfold cc0__logits_kernel_skel
  rw [k0_part1_eq_skeleton]; unfold k0_part1_skel
  by_cases hF : isFirst i <;> by_cases hL : isLast i
  all_goals
    simp only [hid, mOld, sOld, aOld, lgt, lseOut, actOut, hF, hL, if_true, if_false]
    simp only [isFirst] at hF
    simp only [isLast] at hL
    have hL' := hL
    simp only [k0_cond3] at hL'
    simp only [hF, hL, hL', dite_true, dite_false, Prog.lift, Prog.bind_op, Prog.bind_ret, pure_bind]
    iintro ⟨⟨H1, H2, H3, H4, H5, H6, H7, H8, H9, H10, H11, H12⟩, Hk⟩
  · -- the first point, the last
    iapply (wp_loadW (E := E) (m := a1) 𝒱 (c : Thread nD τ) none off2) $$ H1; iintro H1
    iapply (wp_loadW (E := E) (m := a2) 𝒱 (c : Thread nD τ) none off2) $$ H2; iintro H2
    iapply (wp_loadW (E := E) (m := a3) 𝒱 (c : Thread nD τ) none off2) $$ H3; iintro H3
    iapply (wp_loadW (E := E) (m := a9) 𝒱 (c : Thread nD τ) none off2) $$ H9; iintro H9
    iapply (wp_storeW (E := E) (m := a9) 𝒱 (c : Thread nD τ) none off2) $$ H9; iintro H9
    iapply (wp_loadW (E := E) (m := a10) 𝒱 (c : Thread nD τ) none off2) $$ H10; iintro H10
    iapply (wp_storeW (E := E) (m := a10) 𝒱 (c : Thread nD τ) none off2) $$ H10; iintro H10
    iapply (wp_loadW (E := E) (m := a11) 𝒱 (c : Thread nD τ) none off2) $$ H11; iintro H11
    iapply (wp_storeW (E := E) (m := a11) 𝒱 (c : Thread nD τ) none off2) $$ H11; iintro H11
    iapply (wp_loadW (E := E) (m := a12) 𝒱 (c : Thread nD τ) none off2) $$ H12; iintro H12
    iapply (wp_storeW (E := E) (m := a12) 𝒱 (c : Thread nD τ) none off2) $$ H12; iintro H12
    iapply (wp_loadW (E := E) (m := a9) 𝒱 (c : Thread nD τ) none off2) $$ H9; iintro H9
    iapply (wp_loadW (E := E) (m := a4) 𝒱 (c : Thread nD τ) none off2) $$ H4; iintro H4
    iapply (wp_loadW (E := E) (m := a5) 𝒱 (c : Thread nD τ) none off2) $$ H5; iintro H5
    iapply (wp_loadW (E := E) (m := a6) 𝒱 (c : Thread nD τ) none off2) $$ H6; iintro H6
    iapply (wp_storeW (E := E) (m := a6) 𝒱 (c : Thread nD τ) none off2) $$ H6; iintro H6
    iapply (wp_loadW (E := E) (m := a10) 𝒱 (c : Thread nD τ) none off2) $$ H10; iintro H10
    iapply (wp_loadW (E := E) (m := a12) 𝒱 (c : Thread nD τ) none off2) $$ H12; iintro H12
    iapply (wp_loadW (E := E) (m := a12) 𝒱 (c : Thread nD τ) none off2) $$ H12; iintro H12
    iapply (wp_storeW (E := E) (m := a12) 𝒱 (c : Thread nD τ) none off2) $$ H12; iintro H12
    iapply (wp_loadW (E := E) (m := a11) 𝒱 (c : Thread nD τ) none off2) $$ H11; iintro H11
    iapply (wp_loadW (E := E) (m := a11) 𝒱 (c : Thread nD τ) none off2) $$ H11; iintro H11
    iapply (wp_storeW (E := E) (m := a11) 𝒱 (c : Thread nD τ) none off2) $$ H11; iintro H11
    iapply (wp_loadW (E := E) (m := a10) 𝒱 (c : Thread nD τ) none off2) $$ H10; iintro H10
    iapply (wp_storeW (E := E) (m := a10) 𝒱 (c : Thread nD τ) none off2) $$ H10; iintro H10
    iapply (wp_loadW (E := E) (m := a10) 𝒱 (c : Thread nD τ) none off2) $$ H10; iintro H10
    iapply (wp_loadW (E := E) (m := a11) 𝒱 (c : Thread nD τ) none off2) $$ H11; iintro H11
    iapply (wp_loadW (E := E) (m := a7) 𝒱 (c : Thread nD τ) none off2) $$ H7; iintro H7
    iapply (wp_storeW (E := E) (m := a7) 𝒱 (c : Thread nD τ) none off2) $$ H7; iintro H7
    iapply (wp_loadW (E := E) (m := a12) 𝒱 (c : Thread nD τ) none off2) $$ H12; iintro H12
    iapply (wp_loadW (E := E) (m := a8) 𝒱 (c : Thread nD τ) none off2) $$ H8; iintro H8
    iapply (wp_storeW (E := E) (m := a8) 𝒱 (c : Thread nD τ) none off2) $$ H8; iintro H8
    iapply (le_wp_ret (Fr := Idealize.ShloMosaic.frame) _ _ PUnit.unit K)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · -- the first point, not the last
    iapply (wp_loadW (E := E) (m := a1) 𝒱 (c : Thread nD τ) none off2) $$ H1; iintro H1
    iapply (wp_loadW (E := E) (m := a2) 𝒱 (c : Thread nD τ) none off2) $$ H2; iintro H2
    iapply (wp_loadW (E := E) (m := a3) 𝒱 (c : Thread nD τ) none off2) $$ H3; iintro H3
    iapply (wp_loadW (E := E) (m := a9) 𝒱 (c : Thread nD τ) none off2) $$ H9; iintro H9
    iapply (wp_storeW (E := E) (m := a9) 𝒱 (c : Thread nD τ) none off2) $$ H9; iintro H9
    iapply (wp_loadW (E := E) (m := a10) 𝒱 (c : Thread nD τ) none off2) $$ H10; iintro H10
    iapply (wp_storeW (E := E) (m := a10) 𝒱 (c : Thread nD τ) none off2) $$ H10; iintro H10
    iapply (wp_loadW (E := E) (m := a11) 𝒱 (c : Thread nD τ) none off2) $$ H11; iintro H11
    iapply (wp_storeW (E := E) (m := a11) 𝒱 (c : Thread nD τ) none off2) $$ H11; iintro H11
    iapply (wp_loadW (E := E) (m := a12) 𝒱 (c : Thread nD τ) none off2) $$ H12; iintro H12
    iapply (wp_storeW (E := E) (m := a12) 𝒱 (c : Thread nD τ) none off2) $$ H12; iintro H12
    iapply (wp_loadW (E := E) (m := a9) 𝒱 (c : Thread nD τ) none off2) $$ H9; iintro H9
    iapply (wp_loadW (E := E) (m := a4) 𝒱 (c : Thread nD τ) none off2) $$ H4; iintro H4
    iapply (wp_loadW (E := E) (m := a5) 𝒱 (c : Thread nD τ) none off2) $$ H5; iintro H5
    iapply (wp_loadW (E := E) (m := a6) 𝒱 (c : Thread nD τ) none off2) $$ H6; iintro H6
    iapply (wp_storeW (E := E) (m := a6) 𝒱 (c : Thread nD τ) none off2) $$ H6; iintro H6
    iapply (wp_loadW (E := E) (m := a10) 𝒱 (c : Thread nD τ) none off2) $$ H10; iintro H10
    iapply (wp_loadW (E := E) (m := a12) 𝒱 (c : Thread nD τ) none off2) $$ H12; iintro H12
    iapply (wp_loadW (E := E) (m := a12) 𝒱 (c : Thread nD τ) none off2) $$ H12; iintro H12
    iapply (wp_storeW (E := E) (m := a12) 𝒱 (c : Thread nD τ) none off2) $$ H12; iintro H12
    iapply (wp_loadW (E := E) (m := a11) 𝒱 (c : Thread nD τ) none off2) $$ H11; iintro H11
    iapply (wp_loadW (E := E) (m := a11) 𝒱 (c : Thread nD τ) none off2) $$ H11; iintro H11
    iapply (wp_storeW (E := E) (m := a11) 𝒱 (c : Thread nD τ) none off2) $$ H11; iintro H11
    iapply (wp_loadW (E := E) (m := a10) 𝒱 (c : Thread nD τ) none off2) $$ H10; iintro H10
    iapply (wp_storeW (E := E) (m := a10) 𝒱 (c : Thread nD τ) none off2) $$ H10; iintro H10
    iapply (le_wp_ret (Fr := Idealize.ShloMosaic.frame) _ _ PUnit.unit K)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · -- a later point, the last
    iapply (wp_loadW (E := E) (m := a9) 𝒱 (c : Thread nD τ) none off2) $$ H9; iintro H9
    iapply (wp_loadW (E := E) (m := a4) 𝒱 (c : Thread nD τ) none off2) $$ H4; iintro H4
    iapply (wp_loadW (E := E) (m := a5) 𝒱 (c : Thread nD τ) none off2) $$ H5; iintro H5
    iapply (wp_loadW (E := E) (m := a6) 𝒱 (c : Thread nD τ) none off2) $$ H6; iintro H6
    iapply (wp_storeW (E := E) (m := a6) 𝒱 (c : Thread nD τ) none off2) $$ H6; iintro H6
    iapply (wp_loadW (E := E) (m := a10) 𝒱 (c : Thread nD τ) none off2) $$ H10; iintro H10
    iapply (wp_loadW (E := E) (m := a12) 𝒱 (c : Thread nD τ) none off2) $$ H12; iintro H12
    iapply (wp_loadW (E := E) (m := a12) 𝒱 (c : Thread nD τ) none off2) $$ H12; iintro H12
    iapply (wp_storeW (E := E) (m := a12) 𝒱 (c : Thread nD τ) none off2) $$ H12; iintro H12
    iapply (wp_loadW (E := E) (m := a11) 𝒱 (c : Thread nD τ) none off2) $$ H11; iintro H11
    iapply (wp_loadW (E := E) (m := a11) 𝒱 (c : Thread nD τ) none off2) $$ H11; iintro H11
    iapply (wp_storeW (E := E) (m := a11) 𝒱 (c : Thread nD τ) none off2) $$ H11; iintro H11
    iapply (wp_loadW (E := E) (m := a10) 𝒱 (c : Thread nD τ) none off2) $$ H10; iintro H10
    iapply (wp_storeW (E := E) (m := a10) 𝒱 (c : Thread nD τ) none off2) $$ H10; iintro H10
    iapply (wp_loadW (E := E) (m := a10) 𝒱 (c : Thread nD τ) none off2) $$ H10; iintro H10
    iapply (wp_loadW (E := E) (m := a11) 𝒱 (c : Thread nD τ) none off2) $$ H11; iintro H11
    iapply (wp_loadW (E := E) (m := a7) 𝒱 (c : Thread nD τ) none off2) $$ H7; iintro H7
    iapply (wp_storeW (E := E) (m := a7) 𝒱 (c : Thread nD τ) none off2) $$ H7; iintro H7
    iapply (wp_loadW (E := E) (m := a12) 𝒱 (c : Thread nD τ) none off2) $$ H12; iintro H12
    iapply (wp_loadW (E := E) (m := a8) 𝒱 (c : Thread nD τ) none off2) $$ H8; iintro H8
    iapply (wp_storeW (E := E) (m := a8) 𝒱 (c : Thread nD τ) none off2) $$ H8; iintro H8
    iapply (le_wp_ret (Fr := Idealize.ShloMosaic.frame) _ _ PUnit.unit K)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · -- a later point, not the last
    iapply (wp_loadW (E := E) (m := a9) 𝒱 (c : Thread nD τ) none off2) $$ H9; iintro H9
    iapply (wp_loadW (E := E) (m := a4) 𝒱 (c : Thread nD τ) none off2) $$ H4; iintro H4
    iapply (wp_loadW (E := E) (m := a5) 𝒱 (c : Thread nD τ) none off2) $$ H5; iintro H5
    iapply (wp_loadW (E := E) (m := a6) 𝒱 (c : Thread nD τ) none off2) $$ H6; iintro H6
    iapply (wp_storeW (E := E) (m := a6) 𝒱 (c : Thread nD τ) none off2) $$ H6; iintro H6
    iapply (wp_loadW (E := E) (m := a10) 𝒱 (c : Thread nD τ) none off2) $$ H10; iintro H10
    iapply (wp_loadW (E := E) (m := a12) 𝒱 (c : Thread nD τ) none off2) $$ H12; iintro H12
    iapply (wp_loadW (E := E) (m := a12) 𝒱 (c : Thread nD τ) none off2) $$ H12; iintro H12
    iapply (wp_storeW (E := E) (m := a12) 𝒱 (c : Thread nD τ) none off2) $$ H12; iintro H12
    iapply (wp_loadW (E := E) (m := a11) 𝒱 (c : Thread nD τ) none off2) $$ H11; iintro H11
    iapply (wp_loadW (E := E) (m := a11) 𝒱 (c : Thread nD τ) none off2) $$ H11; iintro H11
    iapply (wp_storeW (E := E) (m := a11) 𝒱 (c : Thread nD τ) none off2) $$ H11; iintro H11
    iapply (wp_loadW (E := E) (m := a10) 𝒱 (c : Thread nD τ) none off2) $$ H10; iintro H10
    iapply (wp_storeW (E := E) (m := a10) 𝒱 (c : Thread nD τ) none off2) $$ H10; iintro H10
    iapply (le_wp_ret (Fr := Idealize.ShloMosaic.frame) _ _ PUnit.unit K)
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- THE SECOND KERNEL'S BODY at a grid point: the inputs stay, the output window ends at the exponentials of the logits less
    the log-sum-exp. -/
theorem probs_body (i : grid1.Coords)
    (a1 : Memref sig .tc .vmem S64x4096 .f32) (h1 : a1.IsWhole) (a2 : Memref sig .tc .vmem S64x1 .f32) (h2 : a2.IsWhole)
    (a3 : Memref sig .tc .vmem S64x4096 .f32) (h3 : a3.IsWhole)
    (x1 : Vec F S64x4096 .f32) (x2 : Vec F S64x1 .f32) (x3 : Vec F S64x4096 .f32)
    (K : PUnit → sProp (MT nD τ sig Ix (Elt F) Name U Lvl)) :
    iprop((owns (c : Thread nD τ) a1 fullShare x1 ∗ owns (c : Thread nD τ) a2 fullShare x2 ∗ owns (c : Thread nD τ) a3 fullShare x3)
      ∗ ((owns (c : Thread nD τ) a1 fullShare x1 ∗ owns (c : Thread nD τ) a2 fullShare x2
        ∗ owns (c : Thread nD τ) a3 fullShare (k1_pay1 x1 x2)) -∗ K ⟨⟩))
      ⊢ wp frame (wpE (defs₀ (F := F)) 𝒱 (c : Thread nD τ) none) E (cc1__probs_kernel i a1 h1 a2 h2 a3 h3) K := by
  rw [cc1__probs_kernel_eq_skeleton]; unfold cc1__probs_kernel_skel
  simp only [Prog.lift, Prog.bind_op, Prog.bind_ret, pure_bind]
  iintro ⟨⟨H1, H2, H3⟩, Hk⟩
  iapply (wp_loadW (E := E) (m := a1) 𝒱 (c : Thread nD τ) none off2) $$ H1; iintro H1
  iapply (wp_loadW (E := E) (m := a2) 𝒱 (c : Thread nD τ) none off2) $$ H2; iintro H2
  iapply (wp_loadW (E := E) (m := a3) 𝒱 (c : Thread nD τ) none off2) $$ H3; iintro H3
  iapply (wp_storeW (E := E) (m := a3) 𝒱 (c : Thread nD τ) none off2) $$ H3; iintro H3
  iapply (le_wp_ret (Fr := Idealize.ShloMosaic.frame) _ _ PUnit.unit K)
  iapply Hk
  isplitl [H1]; · iexact H1
  isplitl [H2]; · iexact H2
  iexact H3

end

end Cert.KernelIdeal.Body

end
-- ==== Proof.DatKernelIdeal.lean ====
/-
  The proof data of the two kernel regions, over any contents of the arrays at the region's entry: what the input
  windows' staging buffers hold at each grid point. What the output windows hold, and the invariant, are parameters.
-/
module

public import proofs.«01_k».proof.Proof.BodyKernelIdeal
public import proofs.«01_k».proof.Proof.Gen.KernelIdeal.Launch
public import proofs.«01_k».proof.Proof.Gen.KernelIdeal.Points
public import Idealize.ShloMosaic.Lib.Pipeline.FrameBody

@[expose] public section

set_option maxRecDepth 16384

noncomputable section

namespace Cert.KernelIdeal.Regions

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]
variable {U : Type} [URA U]

/-- The block of the concatenated input. -/
def blk0_0 (V : Valuation τ sig (Elt F)) (t : Fin cfg0.N) : Vec F S64x1088 .f32 := (win0_0.blk t).view.read (Elt F) (V main_v2)
/-- The block of the first layer's weights. -/
def blk0_1 (V : Valuation τ sig (Elt F)) (t : Fin cfg0.N) : Vec F S1088x256 .f32 := (win0_1.blk t).view.read (Elt F) (V main_arg4)
/-- The block of the first layer's bias. -/
def blk0_2 (V : Valuation τ sig (Elt F)) (t : Fin cfg0.N) : Vec F S1x256 .f32 := (win0_2.blk t).view.read (Elt F) (V main_v12)
/-- The second layer's weights, point `t`'s block, over the contents `d` where the block runs past the array. -/
def blk0_3 (V : Valuation τ sig (Elt F)) (t : Fin cfg0.N) (d : Vec F S256x4096 .f32) : Vec F S256x4096 .f32 :=
  win0_3.fill (grid0.coords t) d ((win0_3.blk t).view.read (Elt F) (V main_arg6))
/-- The second layer's bias, point `t`'s block, over the contents `d` where the block runs past the array. -/
def blk0_4 (V : Valuation τ sig (Elt F)) (t : Fin cfg0.N) (d : Vec F S1x4096 .f32) : Vec F S1x4096 .f32 :=
  win0_4.fill (grid0.coords t) d ((win0_4.blk t).view.read (Elt F) (V main_v13))

/-- The first region's proof data: the arrays at `V`, the input windows at their blocks, the output windows at
    `o5`, `o6`, `o7` and the invariant `Φ`. -/
def dat0 (V : Valuation τ sig (Elt F)) (o5 : Fin cfg0.N → Vec F S64x4096 .f32) (o6 o7 : Fin cfg0.N → Vec F S64x1 .f32)
    (c : Dev nD) (Φ : Fin (cfg0.N + 1) → sProp (MT nD τ sig Unit (Elt F) ℕ U ℕ)) : Dat τ (Elt F) Unit ℕ U ℕ cfg0 c where
  A w := V (Pipeline.arrRef spec0 w)
  after w t := match w with
    | ⟨0, _⟩ => blk0_0 V t
    | ⟨1, _⟩ => blk0_1 V t
    | ⟨2, _⟩ => blk0_2 V t
    | ⟨3, _⟩ => blk0_3 V t (fun _ => Scalar.ofBits .f32 0#32)
    | ⟨4, _⟩ => blk0_4 V t (fun _ => Scalar.ofBits .f32 0#32)
    | ⟨5, _⟩ => o5 t
    | ⟨6, _⟩ => o6 t
    | ⟨7, _⟩ => o7 t
  Φ := Φ
  q _ := fullShare
  owed _ := 0

/-- The second region's block of the logits at a grid point, `d` past the array. -/
def blk1_0 (V : Valuation τ sig (Elt F)) (t : Fin cfg1.N) (d : Vec F S64x4096 .f32) : Vec F S64x4096 .f32 :=
  win1_0.fill (grid1.coords t) d ((win1_0.blk t).view.read (Elt F) (V main_v14_0))
/-- The block of the log-sum-exp column. -/
def blk1_1 (V : Valuation τ sig (Elt F)) (t : Fin cfg1.N) : Vec F S64x1 .f32 := (win1_1.blk t).view.read (Elt F) (V main_v14_1)

/-- The second region's proof data: the arrays at `V`, the input windows at their blocks, the output window at `o2`
    and the invariant `Φ`. -/
def dat1 (V : Valuation τ sig (Elt F)) (o2 : Fin cfg1.N → Vec F S64x4096 .f32)
    (c : Dev nD) (Φ : Fin (cfg1.N + 1) → sProp (MT nD τ sig Unit (Elt F) ℕ U ℕ)) : Dat τ (Elt F) Unit ℕ U ℕ cfg1 c where
  A w := V (Pipeline.arrRef spec1 w)
  after w t := match w with
    | ⟨0, _⟩ => blk1_0 V t (fun _ => Scalar.ofBits .f32 0#32)
    | ⟨1, _⟩ => blk1_1 V t
    | ⟨2, _⟩ => o2 t
  Φ := Φ
  q _ := fullShare
  owed _ := 0

section
variable (V : Valuation τ sig (Elt F)) (o5 : Fin cfg0.N → Vec F S64x4096 .f32) (o6 o7 : Fin cfg0.N → Vec F S64x1 .f32)
  (c : Dev nD) (Φ : Fin (cfg0.N + 1) → sProp (MT nD τ sig Unit (Elt F) ℕ U ℕ))

/-- What each input's staging buffer holds when a grid point of the first region starts: its block. -/
theorem before0_0 (t : Fin cfg0.N) (d) : (dat0 V o5 o6 o7 c Φ).before 0 t d = blk0_0 V t :=
  (dat0 V o5 o6 o7 c Φ).before_in_eq_fetched 0 rfl (fun _ => rfl) (fun _ _ _ => rfl) (fun _ => rfl) t d
theorem before0_1 (t : Fin cfg0.N) (d) : (dat0 V o5 o6 o7 c Φ).before 1 t d = blk0_1 V t :=
  (dat0 V o5 o6 o7 c Φ).before_in_eq_fetched 1 rfl (fun _ => rfl) (fun _ _ _ => rfl) (fun _ => rfl) t d
theorem before0_2 (t : Fin cfg0.N) (d) : (dat0 V o5 o6 o7 c Φ).before 2 t d = blk0_2 V t :=
  (dat0 V o5 o6 o7 c Φ).before_in_eq_fetched 2 rfl (fun _ => rfl) (fun _ _ _ => rfl) (fun _ => rfl) t d
theorem before0_3 (t : Fin cfg0.N) (d) : (dat0 V o5 o6 o7 c Φ).before 3 t d = blk0_3 V t d :=
  (dat0 V o5 o6 o7 c Φ).before_fetched 3 t (fetch0_3 t) d
theorem before0_4 (t : Fin cfg0.N) (d) : (dat0 V o5 o6 o7 c Φ).before 4 t d = blk0_4 V t d :=
  (dat0 V o5 o6 o7 c Φ).before_fetched 4 t (fetch0_4 t) d

/-- Two readings of the weights' block agree on the part inside the array. -/
theorem fill0_3 (t : Fin cfg0.N) (d d' : Vec F S256x4096 .f32) :
    win0_3.fill (grid0.coords t) d (win0_3.cut (grid0.coords t) (blk0_3 V t d')) = blk0_3 V t d := by
  unfold blk0_3; rw [win0_3.cut_fill]
/-- Two readings of the bias's block agree on the part inside the array. -/
theorem fill0_4 (t : Fin cfg0.N) (d d' : Vec F S1x4096 .f32) :
    win0_4.fill (grid0.coords t) d (win0_4.cut (grid0.coords t) (blk0_4 V t d')) = blk0_4 V t d := by
  unfold blk0_4; rw [win0_4.cut_fill]
end

section
variable (V : Valuation τ sig (Elt F)) (o2 : Fin cfg1.N → Vec F S64x4096 .f32)
  (c : Dev nD) (Φ : Fin (cfg1.N + 1) → sProp (MT nD τ sig Unit (Elt F) ℕ U ℕ))

/-- What each input's staging buffer holds when a grid point of the second region starts: its block. -/
theorem before1_0 (t : Fin cfg1.N) (d) : (dat1 V o2 c Φ).before 0 t d = blk1_0 V t d :=
  (dat1 V o2 c Φ).before_fetched 0 t (fetch1_0 t) d
theorem before1_1 (t : Fin cfg1.N) (d) : (dat1 V o2 c Φ).before 1 t d = blk1_1 V t :=
  (dat1 V o2 c Φ).before_in_eq_fetched 1 rfl (fun _ => rfl) (fun _ _ _ => rfl) (fun _ => rfl) t d

/-- Two readings of the logits' block agree on the part inside the array. -/
theorem fill1_0 (t : Fin cfg1.N) (d d' : Vec F S64x4096 .f32) :
    win1_0.fill (grid1.coords t) d (win1_0.cut (grid1.coords t) (blk1_0 V t d')) = blk1_0 V t d := by
  unfold blk1_0; rw [win1_0.cut_fill]
end

end Cert.KernelIdeal.Regions
-- ==== Proof.ForgetKernelIdeal.lean ====
/-
  The two kernel regions run with nothing named about what they leave: the inputs stay as they were and the outputs
  end at some contents. This is what the frame of the program rests on.
-/
module

public import proofs.«01_k».proof.Proof.DatKernelIdeal

@[expose] public section

set_option maxRecDepth 16384

noncomputable section

namespace Cert.KernelIdeal.Regions

open Cert.KernelIdeal Cert.KernelIdeal.Gen Cert.KernelIdeal.Body Cert.Whole
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]
variable {U : Type} [URA U]

local notation "𝕄" => MT nD τ sig Unit (Elt F) ℕ U ℕ

/-- No contents in particular. -/
def zeros (s : Shape) : Vec F s .f32 := fun _ => Scalar.ofBits .f32 0#32

/-- The kernels have no semaphore of their own. -/
abbrev noSem : PEmpty → SemLoc sig := fun k => k.elim

/-- What rides along the body of a region: the generator register and the (absent) semaphores of its own. -/
def along (c : Dev nD) : sProp 𝕄 := iprop((∃ r, prngReg c r) ∗ Pipeline.ownSems0 noSem c)

/-- The first region's invariant: every scoped buffer that stages no window, at something. -/
def Φ0 (c : Dev nD) : sProp 𝕄 := iprop(Pipeline.scopedRest spec0 c ∗ along c)
/-- The second region's. -/
def Φ1 (c : Dev nD) : sProp 𝕄 := iprop(Pipeline.scopedRest spec1 c ∗ along c)

/-- The first region's proof data with its outputs unnamed. -/
def fdat0 (V : Valuation τ sig (Elt F)) (c : Dev nD) : Dat τ (Elt F) Unit ℕ U ℕ cfg0 c :=
  dat0 V (fun _ => zeros _) (fun _ => zeros _) (fun _ => zeros _) c (fun _ => Φ0 c)
/-- The second region's. -/
def fdat1 (V : Valuation τ sig (Elt F)) (c : Dev nD) : Dat τ (Elt F) Unit ℕ U ℕ cfg1 c :=
  dat1 V (fun _ => zeros _) c (fun _ => Φ1 c)

/-- The windows whose contents are not named: the outputs. -/
def fg0 : Fin 8 → Bool := fun w => Nat.ble 5 w.val
/-- The second region's. -/
def fg1 : Fin 3 → Bool := fun w => Nat.ble 2 w.val

/-- Each grid point of the first region runs, whatever the outputs hold. -/
theorem body0 (V : Valuation τ sig (Elt F)) (c : Dev nD) :
    BodyObligationLoose (fdat0 (U := U) V c) (defs₀ (F := F)) Variants.none () Set.univ fg0 := fun t => by
  rw [bigSep_W0, bigSep_W0]
  have h : iprop(Φ0 c ∗ (fdat0 (U := U) V c).owesAt () t.castSucc
      ∗ (∃ d, owns (c : Thread nD τ) (st0_0 t) fullShare ((fdat0 (U := U) V c).before 0 t d))
      ∗ (∃ d, owns (c : Thread nD τ) (st0_1 t) fullShare ((fdat0 (U := U) V c).before 1 t d))
      ∗ (∃ d, owns (c : Thread nD τ) (st0_2 t) fullShare ((fdat0 (U := U) V c).before 2 t d))
      ∗ (∃ d, owns (c : Thread nD τ) (st0_3 t) fullShare ((fdat0 (U := U) V c).before 3 t d))
      ∗ (∃ d, owns (c : Thread nD τ) (st0_4 t) fullShare ((fdat0 (U := U) V c).before 4 t d))
      ∗ (∃ X, owns (c : Thread nD τ) (st0_5 t) fullShare X) ∗ (∃ X, owns (c : Thread nD τ) (st0_6 t) fullShare X)
      ∗ (∃ X, owns (c : Thread nD τ) (st0_7 t) fullShare X))
    ⊢ wp frame (wpE (defs₀ (F := F)) Variants.none (c : Thread nD τ) none) Set.univ (bodyAt0 t) fun _ =>
      iprop(Φ0 c ∗ (fdat0 (U := U) V c).owesAt () t.castSucc
      ∗ owns (c : Thread nD τ) (st0_0 t) fullShare (blk0_0 V t) ∗ owns (c : Thread nD τ) (st0_1 t) fullShare (blk0_1 V t)
      ∗ owns (c : Thread nD τ) (st0_2 t) fullShare (blk0_2 V t)
      ∗ (∃ d, owns (c : Thread nD τ) (st0_3 t) fullShare (win0_3.fill (grid0.coords t) d (win0_3.cut (grid0.coords t) (blk0_3 V t (fun _ => Scalar.ofBits .f32 0#32)))))
      ∗ (∃ d, owns (c : Thread nD τ) (st0_4 t) fullShare (win0_4.fill (grid0.coords t) d (win0_4.cut (grid0.coords t) (blk0_4 V t (fun _ => Scalar.ofBits .f32 0#32)))))
      ∗ (∃ X, owns (c : Thread nD τ) (st0_5 t) fullShare X) ∗ (∃ X, owns (c : Thread nD τ) (st0_6 t) fullShare X)
      ∗ (∃ X, owns (c : Thread nD τ) (st0_7 t) fullShare X)) := by
    unfold fdat0
    simp only [before0_0, before0_1, before0_2, before0_3, before0_4]
    unfold Φ0
    rw [scopedRest0_eq]
    iintro ⟨⟨⟨⟨%f0, S0⟩, ⟨%f1, S1⟩, ⟨%f2, S2⟩, ⟨%f3, S3⟩, HR⟩, HP⟩, Ho, ⟨%d0, H0⟩, ⟨%d1, H1⟩, ⟨%d2, H2⟩, ⟨%d3, H3⟩, ⟨%d4, H4⟩, ⟨%x5, H5⟩, ⟨%x6, H6⟩, ⟨%x7, H7⟩⟩
    ihave S0 := (owns_intro (c : Thread nD τ) cc0_scratch0 fullShare f0) $$ S0
    ihave S1 := (owns_intro (c : Thread nD τ) cc0_scratch1 fullShare f1) $$ S1
    ihave S2 := (owns_intro (c : Thread nD τ) cc0_scratch2 fullShare f2) $$ S2
    ihave S3 := (owns_intro (c : Thread nD τ) cc0_scratch3 fullShare f3) $$ S3
    iapply (logits_body (F := F) Variants.none c Set.univ (grid0.coords t) (st0_0 t) (hstage0_0 ((cfg0.slots t 0).cast nbuf0_0))
      (st0_1 t) (hstage0_1 ((cfg0.slots t 1).cast nbuf0_1)) (st0_2 t) (hstage0_2 ((cfg0.slots t 2).cast nbuf0_2))
      (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6))
      (st0_7 t) (hstage0_7 ((cfg0.slots t 7).cast nbuf0_7))
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (blk0_0 V t) (blk0_1 V t) (blk0_2 V t) (blk0_3 V t d3) (blk0_4 V t d4) x5 x6 x7 f0 f1 f2 f3)
    isplitl [S0 S1 S2 S3 H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      iexact S3
    iintro ⟨H0, H1, H2, H3, H4, H5, H6, H7, S0, S1, S2, S3⟩
    ihave S0 := (owns_elim (c : Thread nD τ) cc0_scratch0 fullShare _) $$ S0
    ihave S1 := (owns_elim (c : Thread nD τ) cc0_scratch1 fullShare _) $$ S1
    ihave S2 := (owns_elim (c : Thread nD τ) cc0_scratch2 fullShare _) $$ S2
    ihave S3 := (owns_elim (c : Thread nD τ) cc0_scratch3 fullShare _) $$ S3
    isplitl [S0 S1 S2 S3 HR HP]
    · isplitl [S0 S1 S2 S3 HR]
      · isplitl [S0]; · iexact S0
        isplitl [S1]; · iexact S1
        isplitl [S2]; · iexact S2
        isplitl [S3]; · iexact S3
        iexact HR
      iexact HP
    isplitl [Ho]; · iexact Ho
    isplitl [H0]; · iexact H0
    isplitl [H1]; · iexact H1
    isplitl [H2]; · iexact H2
    isplitl [H3]; · iexists d3; rw [fill0_3]; iexact H3
    isplitl [H4]; · iexists d4; rw [fill0_4]; iexact H4
    isplitl [H5]; · iexists _; iexact H5
    isplitl [H6]; · iexists _; iexact H6
    iexists _; iexact H7
  exact h

/-- Each grid point of the second region runs, whatever the output holds. -/
theorem body1 (V : Valuation τ sig (Elt F)) (c : Dev nD) :
    BodyObligationLoose (fdat1 (U := U) V c) (defs₀ (F := F)) Variants.none () Set.univ fg1 := fun t => by
  rw [bigSep_W1, bigSep_W1]
  have h : iprop(Φ1 c ∗ (fdat1 (U := U) V c).owesAt () t.castSucc
      ∗ (∃ d, owns (c : Thread nD τ) (st1_0 t) fullShare ((fdat1 (U := U) V c).before 0 t d))
      ∗ (∃ d, owns (c : Thread nD τ) (st1_1 t) fullShare ((fdat1 (U := U) V c).before 1 t d))
      ∗ (∃ X, owns (c : Thread nD τ) (st1_2 t) fullShare X))
    ⊢ wp frame (wpE (defs₀ (F := F)) Variants.none (c : Thread nD τ) none) Set.univ (bodyAt1 t) fun _ =>
      iprop(Φ1 c ∗ (fdat1 (U := U) V c).owesAt () t.castSucc
      ∗ (∃ d, owns (c : Thread nD τ) (st1_0 t) fullShare (win1_0.fill (grid1.coords t) d (win1_0.cut (grid1.coords t) (blk1_0 V t (fun _ => Scalar.ofBits .f32 0#32)))))
      ∗ owns (c : Thread nD τ) (st1_1 t) fullShare (blk1_1 V t)
      ∗ (∃ X, owns (c : Thread nD τ) (st1_2 t) fullShare X)) := by
    unfold fdat1
    simp only [before1_0, before1_1]
    iintro ⟨HΦ, Ho, ⟨%d0, H0⟩, ⟨%d1, H1⟩, ⟨%x2, H2⟩⟩
    iapply (probs_body (F := F) Variants.none c Set.univ (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (blk1_0 V t d0) (blk1_1 V t) x2)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexists d0; rw [fill1_0]; iexact H0
    isplitl [H1]; · iexact H1
    iexists _; iexact H2
  exact h

end Cert.KernelIdeal.Regions
-- ==== Proof.RunKernelIdeal.lean ====
/-
  The run of the whole program, the outputs unnamed: from any memory with its semaphores at zero it ends, and then
  every argument is as it was and every semaphore is at zero.
-/
module

public import proofs.«01_k».proof.Proof.ForgetKernelIdeal
public import proofs.«01_k».proof.Proof.RegionHost
public import proofs.«01_k».proof.Proof.Gen.KernelIdeal.Regions
public import Idealize.ShloMosaic.Lib.Pipeline.RegionArraysF

@[expose] public section

set_option maxRecDepth 16384

noncomputable section

namespace Cert.KernelIdeal.Regions

open Cert.KernelIdeal Cert.KernelIdeal.Gen Cert.RegionHost
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose Seg HostSeg cellsGhost toksInit pin)

variable {F : FTy → Type} [FloatOps F]

/-- Two copies of the pipelines' ghost state. -/
abbrev UU : Type := URounds (GSem nD τ sig) Unit × URounds (GSem nD τ sig) Unit

local notation "𝕄" => MT nD τ sig Unit (Elt F) ℕ UU ℕ

/-- The copy the regions run on. -/
abbrev ER : Emb (URounds (GSem nD τ sig) Unit) 𝕄 := embR

/-- The staging waits' one index, at every cell of a TensorCore. -/
def LL : GSem nD τ sig → Finset Unit := fun g => if g.1.2 = .tc then {()} else ∅
/-- One level for every cell. -/
abbrev lv₀ : GSem nD τ sig → Unit → ℕ := fun _ _ => 0

/-- Both regions' proof data. -/
def pd (V : Valuation τ sig (Elt F)) : (p : Fin 2) → (c : Dev nD) → Dat τ (Elt F) Unit ℕ UU ℕ (pin (pcfgs (F := F)) adm p) c :=
  fun | ⟨0, _⟩ => fdat0 V | ⟨1, _⟩ => fdat1 V | ⟨_ + 2, h⟩ => absurd h (Nat.not_lt.2 (Nat.le_add_left _ _))
/-- The windows whose contents are not named. -/
def fg : (p : Fin 2) → Fin (pin (pcfgs (F := F)) adm p).W → Bool :=
  fun | ⟨0, _⟩ => fg0 | ⟨1, _⟩ => fg1 | ⟨_ + 2, h⟩ => absurd h (Nat.not_lt.2 (Nat.le_add_left _ _))

/-- The arguments. -/
abbrev argRefs : List (Ref sig .tc) := [main_arg0, main_arg1, main_arg2, main_arg3, main_arg4, main_arg5, main_arg6, main_arg7, main_arg8]
/-- The arguments are as in the launch memory `m`. -/
def Args (m : (ℓ : Loc nD τ sig) → Buf (Elt F) ℓ) (c : Dev nD) (V : Valuation τ sig (Elt F)) : Prop :=
  ∀ r ∈ argRefs, V (Proc.devRef .tc r) = m (c, Proc.devRef .tc r)

/-- What the first region leaves in the buffers: its three outputs' arrays at `A`, the others as before. -/
def mk0 (V : Valuation τ sig (Elt F)) (c : Dev nD)
    (A : (w : Fin 8) → Buf (Elt F) ((cfg0.win w).arr.view.loc (c.tc : Thread nD τ))) : Valuation τ sig (Elt F) :=
  Function.update (Function.update (Function.update V main_v14_0 (A 5)) main_v14_1 (A 6)) main_v14_2 (A 7)
/-- What the second region leaves: its output's array at `A`, the others as before. -/
def mk1 (V : Valuation τ sig (Elt F)) (c : Dev nD)
    (A : (w : Fin 3) → Buf (Elt F) ((cfg1.win w).arr.view.loc (c.tc : Thread nD τ))) : Valuation τ sig (Elt F) :=
  Function.update V main_v15 (A 2)

/-- The regions leave every other buffer as it was. -/
theorem mk0_of (V : Valuation τ sig (Elt F)) (c : Dev nD) (A) (d : DevRef τ sig) (h0 : d ≠ main_v14_0) (h1 : d ≠ main_v14_1)
    (h2 : d ≠ main_v14_2) : mk0 V c A d = V d := by
  unfold mk0; rw [Function.update_of_ne h2, Function.update_of_ne h1, Function.update_of_ne h0]
theorem mk1_of (V : Valuation τ sig (Elt F)) (c : Dev nD) (A) (d : DevRef τ sig) (h0 : d ≠ main_v15) : mk1 V c A d = V d := by
  unfold mk1; rw [Function.update_of_ne h0]

/-- What the regions leave in their outputs' arrays. -/
theorem mk0_5 (V : Valuation τ sig (Elt F)) (c : Dev nD) (A) : mk0 V c A main_v14_0 = A 5 := by
  unfold mk0
  rw [Function.update_of_ne (StableHlo.devRef_ne_of_ne (by decide)), Function.update_of_ne (StableHlo.devRef_ne_of_ne (by decide)), Function.update_self]
theorem mk0_6 (V : Valuation τ sig (Elt F)) (c : Dev nD) (A) : mk0 V c A main_v14_1 = A 6 := by
  unfold mk0
  rw [Function.update_of_ne (StableHlo.devRef_ne_of_ne (by decide)), Function.update_self]
theorem mk0_7 (V : Valuation τ sig (Elt F)) (c : Dev nD) (A) : mk0 V c A main_v14_2 = A 7 := by
  unfold mk0
  rw [Function.update_self]
theorem mk1_2 (V : Valuation τ sig (Elt F)) (c : Dev nD) (A) : mk1 V c A main_v15 = A 2 := by
  unfold mk1
  rw [Function.update_self]

/-- The regions keep the arguments. -/
theorem mk0_args (m : (ℓ : Loc nD τ sig) → Buf (Elt F) ℓ) (V : Valuation τ sig (Elt F)) (c : Dev nD) (A) (h : Args m c V) :
    Args m c (mk0 V c A) := fun r hr => by
  have hne : r ≠ main_v14_0 ∧ r ≠ main_v14_1 ∧ r ≠ main_v14_2 :=
    (show ∀ r ∈ argRefs, r ≠ main_v14_0 ∧ r ≠ main_v14_1 ∧ r ≠ main_v14_2 by decide) r hr
  rw [mk0_of V c A _ (StableHlo.devRef_ne_of_ne hne.1) (StableHlo.devRef_ne_of_ne hne.2.1) (StableHlo.devRef_ne_of_ne hne.2.2)]
  exact h r hr
theorem mk1_args (m : (ℓ : Loc nD τ sig) → Buf (Elt F) ℓ) (V : Valuation τ sig (Elt F)) (c : Dev nD) (A) (h : Args m c V) :
    Args m c (mk1 V c A) := fun r hr => by
  have hne : r ≠ main_v15 := (show ∀ r ∈ argRefs, r ≠ main_v15 by decide) r hr
  rw [mk1_of V c A _ (StableHlo.devRef_ne_of_ne hne)]
  exact h r hr

/-- Every array of the first region after it. -/
theorem mk0_arr (V : Valuation τ sig (Elt F)) (c : Dev nD) (A : (w : Fin 8) → Buf (Elt F) ((cfg0.win w).arr.view.loc (c.tc : Thread nD τ)))
    (hA : ∀ w, fg0 w = false → A w = (fdat0 (U := UU) V c).arrAt w cfg0.N) (w : Fin 8) :
    A w = mk0 V c A (Proc.devRef .tc (Pipeline.arrRef spec0 w)) := by
  have hin : ∀ w : Fin 8, fg0 w = false → (cfg0.win w).isOut = false := by decide
  have key : ∀ w : Fin 8, fg0 w = false → (Proc.devRef .tc (Pipeline.arrRef spec0 w) : DevRef τ sig) ≠ main_v14_0 →
      (Proc.devRef .tc (Pipeline.arrRef spec0 w) : DevRef τ sig) ≠ main_v14_1 →
      (Proc.devRef .tc (Pipeline.arrRef spec0 w) : DevRef τ sig) ≠ main_v14_2 →
      A w = mk0 V c A (Proc.devRef .tc (Pipeline.arrRef spec0 w)) := fun w hw h0 h1 h2 => by
    rw [mk0_of V c A _ h0 h1 h2]
    exact (hA w hw).trans ((fdat0 (U := UU) V c).arrAt_in w (hin w hw) cfg0.N)
  have hne : ∀ w : Fin 8, fg0 w = false → Pipeline.arrRef spec0 w ≠ main_v14_0 ∧ Pipeline.arrRef spec0 w ≠ main_v14_1
      ∧ Pipeline.arrRef spec0 w ≠ main_v14_2 := by decide
  by_cases hw : fg0 w = false
  · exact key w hw (StableHlo.devRef_ne_of_ne (hne w hw).1) (StableHlo.devRef_ne_of_ne (hne w hw).2.1) (StableHlo.devRef_ne_of_ne (hne w hw).2.2)
  · have h567 : w = 5 ∨ w = 6 ∨ w = 7 := (show ∀ w : Fin 8, fg0 w ≠ false → w = 5 ∨ w = 6 ∨ w = 7 by decide) w hw
    rcases h567 with rfl | rfl | rfl
    · exact (mk0_5 V c A).symm
    · exact (mk0_6 V c A).symm
    · exact (mk0_7 V c A).symm

/-- Every array of the second region after it. -/
theorem mk1_arr (V : Valuation τ sig (Elt F)) (c : Dev nD) (A : (w : Fin 3) → Buf (Elt F) ((cfg1.win w).arr.view.loc (c.tc : Thread nD τ)))
    (hA : ∀ w, fg1 w = false → A w = (fdat1 (U := UU) V c).arrAt w cfg1.N) (w : Fin 3) :
    A w = mk1 V c A (Proc.devRef .tc (Pipeline.arrRef spec1 w)) := by
  have hin : ∀ w : Fin 3, fg1 w = false → (cfg1.win w).isOut = false := by decide
  have hne : ∀ w : Fin 3, fg1 w = false → Pipeline.arrRef spec1 w ≠ main_v15 := by decide
  by_cases hw : fg1 w = false
  · rw [mk1_of V c A _ (StableHlo.devRef_ne_of_ne (hne w hw))]
    exact (hA w hw).trans ((fdat1 (U := UU) V c).arrAt_in w (hin w hw) cfg1.N)
  · have h2 : w = 2 := (show ∀ w : Fin 3, fg1 w ≠ false → w = 2 by decide) w hw
    subst h2
    exact (mk1_2 V c A).symm

/-- The waits' levels lie below each region's own. -/
theorem cut (p : Fin 2) : Pipeline.LevelCut (nD := nD) (τ := τ) (pcfgs (F := F)) adm () LL lv₀ p (fun _ => 0) (fun _ => 0) where
  hι c w s := by unfold LL; simp
  hιb _ _ _ := le_rfl
  hD _ _ _ h := absurd h (lt_irrefl _)

/-- What rides along the regions: the generator register and the debt, nothing. -/
def side (c : Dev nD) : sProp 𝕄 := iprop((∃ r, prngReg c r) ∗ ∃ W, owes (c.tc : Thread nD τ) (0 : CellTallies nD τ sig Unit) W)

/-- A region's ghost state. -/
abbrev ghost (p : Fin 2) (c : Dev nD) : sProp 𝕄 :=
  iprop(cellsGhost (pin (pcfgs (F := F)) adm) ER p c ∗ toksInit (pin (pcfgs (F := F)) adm) ER p c)

/-- No array is outside the windows. -/
theorem hbm0 : Pipeline.hbmRefs (τ := τ) (∅ : Finset (Ref sig .tc)) = ∅ := rfl

/-- The input arrays are held in full. -/
theorem share0 (V : Valuation τ sig (Elt F)) (c : Dev nD) (w : Fin 8) : (fdat0 (U := UU) V c).share w = fullShare := by
  unfold Dat.share; split <;> rfl
theorem share1 (V : Valuation τ sig (Elt F)) (c : Dev nD) (w : Fin 3) : (fdat1 (U := UU) V c).share w = fullShare := by
  unfold Dat.share; split <;> rfl

/-- Off the arrays of a region, none of its outputs' arrays. -/
theorem off0 (d : DevRef τ sig) (hd : d ∉ Pipeline.arrRefs (τ := τ) spec0) (w : Fin 8) : d ≠ Proc.devRef .tc (Pipeline.arrRef spec0 w) :=
  fun h => hd (Finset.mem_map.mpr ⟨_, Finset.mem_image.mpr ⟨w, Finset.mem_univ _, rfl⟩, h.symm⟩)
/-- A buffer that is no array of the second region. -/
theorem off1 (d : DevRef τ sig) (hd : d ∉ Pipeline.arrRefs (τ := τ) spec1) (w : Fin 3) : d ≠ Proc.devRef .tc (Pipeline.arrRef spec1 w) :=
  fun h => hd (Finset.mem_map.mpr ⟨_, Finset.mem_image.mpr ⟨w, Finset.mem_univ _, rfl⟩, h.symm⟩)

/-- The arrays of the first region, taken out of the unscoped buffers. -/
theorem enter0 (c : Dev nD) (W : Valuation τ sig (Elt F)) :
    iprop(Pipeline.scopedRest spec0 c ∗ (∃ r, prngReg c r) ∗ Pipeline.ownSems0 noSem c
        ∗ (bigSep (∅ : Finset (Ref sig .tc)) fun b => ((c.tc : Thread nD τ).loc b) ↦{fullShare} W (Proc.devRef .tc b))
        ∗ (bigSep (∅ : Finset (Ref sig .tc)) fun b => iprop(∃ f, ((c.tc : Thread nD τ).loc b) ↦{fullShare} f))
        ∗ Transfers.MayWaits (c : Thread nD τ) () 0) ⊢ (Φ0 c : sProp 𝕄) := by
  unfold Φ0 along
  iintro ⟨Hs, Hp, Ho, -, -, -⟩
  isplitl [Hs]; · iexact Hs
  isplitl [Hp]; · iexact Hp
  iexact Ho
/-- The arrays of the first region, put back. -/
theorem leave0 (c : Dev nD) (W : Valuation τ sig (Elt F)) :
    (Φ0 c : sProp 𝕄) ⊢ iprop(Pipeline.scopedRest spec0 c ∗ (∃ r, prngReg c r) ∗ Pipeline.ownSems0 noSem c
        ∗ (bigSep (∅ : Finset (Ref sig .tc)) fun b => ((c.tc : Thread nD τ).loc b) ↦{fullShare} W (Proc.devRef .tc b))
        ∗ (bigSep (∅ : Finset (Ref sig .tc)) fun b => iprop(∃ f, ((c.tc : Thread nD τ).loc b) ↦{fullShare} f))) := by
  rw [BI.bigSep_empty, BI.bigSep_empty]
  unfold Φ0 along
  iintro ⟨Hs, Hp, Ho⟩
  isplitl [Hs]; · iexact Hs
  isplitl [Hp]; · iexact Hp
  isplitl [Ho]; · iexact Ho
  isplitr <;> iempintro

/-- Every wait is allowed. -/
theorem mayWaits (c : Dev nD) : (levAts LL lv₀ : sProp 𝕄) ⊢ Transfers.MayWaits (c : Thread nD τ) () 0 := by
  iintro -; iapply (Transfers.MayWaits.zero (c : Thread nD τ) ()); iempintro

set_option backward.isDefEq.respectTransparency.types false in
/-- The first region's record, entered at `V`. -/
def R0 (V : Valuation τ sig (Elt F)) :
    RDat.RegionSeg (pcfgs (F := F)) adm (Pipeline.toRsF (pcfgs (F := F)) adm (pd V) fg) () defs₀ Variants.none LL lv₀ 0 :=
  RDat.RegionSeg.ofHeldF (pcfgs (F := F)) adm (pd V) () defs₀ Variants.none LL lv₀ 0 (fun _ => 0) fg () noSem
    (Pipeline.OwnSemFacts.none _) ∅ ∅ (Pipeline.ucRefs τ sig \ Pipeline.arrRefs spec0)
    (by rw [hbm0]; exact Finset.empty_subset _) (by rw [hbm0]; exact Finset.empty_subset _)
    (launch0.toP) rfl (fun c => body0 V c) (fun _ _ => rfl) (fun _ => rfl) (fun c w => share0 V c w)
    mayWaits
    (fun _ => V) (fun c A _ => mk0 V c A)
    (fun c A _ hA w => mk0_arr V c A hA w) (fun _ _ _ b hb => absurd hb (Finset.notMem_empty b))
    (fun c A _ d hd => by
      rw [hbm0, Finset.sdiff_empty, Finset.sdiff_empty] at hd
      exact mk0_of V c A d (off0 d (Finset.mem_sdiff.mp hd).2 5) (off0 d (Finset.mem_sdiff.mp hd).2 6) (off0 d (Finset.mem_sdiff.mp hd).2 7))
    (fun _ _ _ d hd => absurd hd (Finset.notMem_empty d))
    (fun c => enter0 c V) (fun c => leave0 c V)
    (fun _ => 0) (cut 0) (fun _ => iprop(emp)) (fun c w => rfl)

/-- The arrays of the second region, taken out of the unscoped buffers. -/
theorem enter1 (c : Dev nD) (W : Valuation τ sig (Elt F)) :
    iprop(Pipeline.scopedRest spec1 c ∗ (∃ r, prngReg c r) ∗ Pipeline.ownSems0 noSem c
        ∗ (bigSep (∅ : Finset (Ref sig .tc)) fun b => ((c.tc : Thread nD τ).loc b) ↦{fullShare} W (Proc.devRef .tc b))
        ∗ (bigSep (∅ : Finset (Ref sig .tc)) fun b => iprop(∃ f, ((c.tc : Thread nD τ).loc b) ↦{fullShare} f))
        ∗ Transfers.MayWaits (c : Thread nD τ) () 0) ⊢ (Φ1 c : sProp 𝕄) := by
  unfold Φ1 along
  iintro ⟨Hs, Hp, Ho, -, -, -⟩
  isplitl [Hs]; · iexact Hs
  isplitl [Hp]; · iexact Hp
  iexact Ho
/-- The arrays of the second region, put back. -/
theorem leave1 (c : Dev nD) (W : Valuation τ sig (Elt F)) :
    (Φ1 c : sProp 𝕄) ⊢ iprop(Pipeline.scopedRest spec1 c ∗ (∃ r, prngReg c r) ∗ Pipeline.ownSems0 noSem c
        ∗ (bigSep (∅ : Finset (Ref sig .tc)) fun b => ((c.tc : Thread nD τ).loc b) ↦{fullShare} W (Proc.devRef .tc b))
        ∗ (bigSep (∅ : Finset (Ref sig .tc)) fun b => iprop(∃ f, ((c.tc : Thread nD τ).loc b) ↦{fullShare} f))) := by
  rw [BI.bigSep_empty, BI.bigSep_empty]
  unfold Φ1 along
  iintro ⟨Hs, Hp, Ho⟩
  isplitl [Hs]; · iexact Hs
  isplitl [Hp]; · iexact Hp
  isplitl [Ho]; · iexact Ho
  isplitr <;> iempintro

set_option backward.isDefEq.respectTransparency.types false in
/-- The second region's record, entered at `V`. -/
def R1 (V : Valuation τ sig (Elt F)) :
    RDat.RegionSeg (pcfgs (F := F)) adm (Pipeline.toRsF (pcfgs (F := F)) adm (pd V) fg) () defs₀ Variants.none LL lv₀ 1 :=
  RDat.RegionSeg.ofHeldF (pcfgs (F := F)) adm (pd V) () defs₀ Variants.none LL lv₀ 1 (fun _ => 0) fg () noSem
    (Pipeline.OwnSemFacts.none _) ∅ ∅ (Pipeline.ucRefs τ sig \ Pipeline.arrRefs spec1)
    (by rw [hbm0]; exact Finset.empty_subset _) (by rw [hbm0]; exact Finset.empty_subset _)
    (launch1.toP) rfl (fun c => body1 V c) (fun _ _ => rfl) (fun _ => rfl) (fun c w => share1 V c w)
    mayWaits
    (fun _ => V) (fun c A _ => mk1 V c A)
    (fun c A _ hA w => mk1_arr V c A hA w) (fun _ _ _ b hb => absurd hb (Finset.notMem_empty b))
    (fun c A _ d hd => by
      rw [hbm0, Finset.sdiff_empty, Finset.sdiff_empty] at hd
      exact mk1_of V c A d (off1 d (Finset.mem_sdiff.mp hd).2 2))
    (fun _ _ _ d hd => absurd hd (Finset.notMem_empty d))
    (fun c => enter1 c V) (fun c => leave1 c V)
    (fun _ => 0) (cut 1) (fun _ => iprop(emp)) (fun c w => rfl)

end Cert.KernelIdeal.Regions
-- ==== Proof.FrameKernelIdeal.lean ====
/-
  The frame of the program: its segments put together and run from any launch memory.
-/
module

public import proofs.«01_k».proof.Proof.RunKernelIdeal

@[expose] public section

set_option maxRecDepth 16384

noncomputable section

namespace Cert.KernelIdeal.Regions

open Cert.KernelIdeal Cert.KernelIdeal.Gen Cert.RegionHost
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose Seg HostSeg cellsGhost toksInit pin)

variable {F : FTy → Type} [FloatOps F]

local notation "𝕄" => MT nD τ sig Unit (Elt F) ℕ UU ℕ

variable (m : (ℓ : Loc nD τ sig) → Buf (Elt F) ℓ)

/-- The thread state between segments: the unscoped buffers at some contents with the arguments as launched. -/
def bufs (c : Dev nD) : sProp 𝕄 :=
  iprop(∃ V, ⌜Args m c V⌝ ∗ StableHlo.held (c : Thread nD τ) (Pipeline.ucRefs τ sig) V)

/-- The host operations keep the arguments. -/
theorem args_host0 (c : Dev nD) (V : Valuation τ sig (Elt F)) (h : Args m c V) : Args m c (StableHlo.after hostOps0 V) := fun r hr => by
  rw [StableHlo.after_of_writes_sub hostOps0 V hostOps0_writes ((show ∀ r ∈ argRefs, r ∉ hostOps0_W by decide) r hr)]
  exact h r hr
theorem args_host2 (c : Dev nD) (V : Valuation τ sig (Elt F)) (h : Args m c V) : Args m c (StableHlo.after hostOps2 V) := fun r hr => by
  rw [StableHlo.after_of_writes_sub hostOps2 V hostOps2_writes ((show ∀ r ∈ argRefs, r ∉ hostOps2_W by decide) r hr)]
  exact h r hr

/-- The host stretch before the regions. -/
def S0 : HostSeg (Ix := Unit) (Name := ℕ) (U := UU) (Lvl := ℕ) (pcfgs (F := F)) defs₀ Variants.none LL lv₀ :=
  exOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Args m) (Args m) (args_host0 m)
    (fun c => iprop(side c ∗ ghost 0 c ∗ ghost 1 c))

/-- The regions' arrays are among the unscoped buffers. -/
theorem arrs0 : Pipeline.arrRefs (τ := τ) spec0 ⊆ Pipeline.ucRefs τ sig := Pipeline.arrRefs_sub_ucRefs spec0 (by decide)
theorem arrs1 : Pipeline.arrRefs (τ := τ) spec1 ⊆ Pipeline.ucRefs τ sig := Pipeline.arrRefs_sub_ucRefs spec1 (by decide)

/-- The unscoped buffers and the rest are what the first region starts from. -/
theorem R0_pre (V : Valuation τ sig (Elt F)) (c : Dev nD) :
    iprop(StableHlo.held (c : Thread nD τ) (Pipeline.ucRefs τ sig) V ∗ side c) ⊢ (R0 V).pre c := by
  show _ ⊢ iprop(StableHlo.held (c.tc : Thread nD τ) (Pipeline.arrRefs spec0) V ∗ (∃ r, prngReg c r)
    ∗ (StableHlo.held (c.tc : Thread nD τ) (Pipeline.ucRefs τ sig \ Pipeline.arrRefs spec0) V ∗ iprop(emp)) ∗ ∃ Wd, owes (c : Thread nD τ) 0 Wd)
  rw [StableHlo.held_sub_split (c.tc : Thread nD τ) arrs0 V]
  unfold side
  iintro ⟨⟨Ha, Hr⟩, Hp, Ho⟩
  isplitl [Ha]; · iexact Ha
  isplitl [Hp]; · iexact Hp
  isplitl [Hr]
  · isplitl [Hr]; · iexact Hr
    iempintro
  iexact Ho

/-- After the first region the unscoped buffers are there, with the arguments as launched. -/
theorem R0_post (V : Valuation τ sig (Elt F)) (c : Dev nD) (h : Args m c V) : (R0 V).post c ⊢ iprop(bufs m c ∗ side c) := by
  show iprop(∃ A, ∃ _g : ((b : Ref sig .tc) → Buf (Elt F) ((c.tc : Thread nD τ).loc b)), StableHlo.held (c.tc : Thread nD τ) (Pipeline.arrRefs spec0) (mk0 V c A) ∗ (∃ r, prngReg c r)
    ∗ (StableHlo.held (c.tc : Thread nD τ) (Pipeline.ucRefs τ sig \ Pipeline.arrRefs spec0) (mk0 V c A) ∗ iprop(emp)) ∗ ∃ Wd, owes (c : Thread nD τ) 0 Wd) ⊢ _
  iintro ⟨%A, %g, Ha, Hp, ⟨Hr, -⟩, Ho⟩
  unfold bufs side
  isplitl [Ha Hr]
  · iexists (mk0 V c A)
    isplitr; · ipureintro; exact mk0_args m V c A h
    rw [StableHlo.held_sub_split (c.tc : Thread nD τ) arrs0 (mk0 V c A)]
    isplitl [Ha]; · iexact Ha
    iexact Hr
  isplitl [Hp]; · iexact Hp
  iexact Ho

/-- The unscoped buffers and the rest are what the second region starts from. -/
theorem R1_pre (V : Valuation τ sig (Elt F)) (c : Dev nD) :
    iprop(StableHlo.held (c : Thread nD τ) (Pipeline.ucRefs τ sig) V ∗ side c) ⊢ (R1 V).pre c := by
  show _ ⊢ iprop(StableHlo.held (c.tc : Thread nD τ) (Pipeline.arrRefs spec1) V ∗ (∃ r, prngReg c r)
    ∗ (StableHlo.held (c.tc : Thread nD τ) (Pipeline.ucRefs τ sig \ Pipeline.arrRefs spec1) V ∗ iprop(emp)) ∗ ∃ Wd, owes (c : Thread nD τ) 0 Wd)
  rw [StableHlo.held_sub_split (c.tc : Thread nD τ) arrs1 V]
  unfold side
  iintro ⟨⟨Ha, Hr⟩, Hp, Ho⟩
  isplitl [Ha]; · iexact Ha
  isplitl [Hp]; · iexact Hp
  isplitl [Hr]
  · isplitl [Hr]; · iexact Hr
    iempintro
  iexact Ho

/-- After the second region the unscoped buffers are there, with the arguments as launched. -/
theorem R1_post (V : Valuation τ sig (Elt F)) (c : Dev nD) (h : Args m c V) : (R1 V).post c ⊢ iprop(bufs m c ∗ side c) := by
  show iprop(∃ A, ∃ _g : ((b : Ref sig .tc) → Buf (Elt F) ((c.tc : Thread nD τ).loc b)), StableHlo.held (c.tc : Thread nD τ) (Pipeline.arrRefs spec1) (mk1 V c A) ∗ (∃ r, prngReg c r)
    ∗ (StableHlo.held (c.tc : Thread nD τ) (Pipeline.ucRefs τ sig \ Pipeline.arrRefs spec1) (mk1 V c A) ∗ iprop(emp)) ∗ ∃ Wd, owes (c : Thread nD τ) 0 Wd) ⊢ _
  iintro ⟨%A, %g, Ha, Hp, ⟨Hr, -⟩, Ho⟩
  unfold bufs side
  isplitl [Ha Hr]
  · iexists (mk1 V c A)
    isplitr; · ipureintro; exact mk1_args m V c A h
    rw [StableHlo.held_sub_split (c.tc : Thread nD τ) arrs1 (mk1 V c A)]
    isplitl [Ha]; · iexact Ha
    iexact Hr
  isplitl [Hp]; · iexact Hp
  iexact Ho

/-- The first region, from any contents with the arguments as launched to the same. -/
def S1 : HostSeg (Ix := Unit) (Name := ℕ) (U := UU) (Lvl := ℕ) (pcfgs (F := F)) defs₀ Variants.none LL lv₀ :=
  (Cert.RegionHost.exRegion (pcfgs (F := F)) adm () cellOf_inj ER defs₀ Variants.none LL lv₀ (fun V c => Args m c V)
    (fun V => Pipeline.toRsF (pcfgs (F := F)) adm (pd V) fg) 0 (fun V => R0 V) (fun c => ghost 1 c)).conseq
    (fun c => iprop(bufs m c ∗ side c ∗ ghost 0 c ∗ ghost 1 c)) (fun c => iprop(bufs m c ∗ side c ∗ ghost 1 c))
    (fun c => by
      show _ ⊢ iprop((∃ V, ⌜Args m c V⌝ ∗ (R0 V).pre c) ∗ ghost 0 c ∗ ghost 1 c)
      unfold bufs
      iintro ⟨⟨%V, %hV, Hh⟩, Hs, Hg0, Hg1⟩
      isplitl [Hh Hs]
      · iexists V
        isplitr; · ipureintro; exact hV
        iapply (R0_pre V c)
        isplitl [Hh]; · iexact Hh
        iexact Hs
      isplitl [Hg0]; · iexact Hg0
      iexact Hg1)
    (fun c => by
      show iprop((∃ V, ⌜Args m c V⌝ ∗ (R0 V).post c) ∗ ghost 1 c) ⊢ _
      iintro ⟨⟨%V, %hV, Hh⟩, Hg1⟩
      ihave H := (R0_post m V c hV) $$ Hh
      icases H with ⟨Hb, Hs⟩
      isplitl [Hb]; · iexact Hb
      isplitl [Hs]; · iexact Hs
      iexact Hg1)

/-- The second region, likewise. -/
def S2 : HostSeg (Ix := Unit) (Name := ℕ) (U := UU) (Lvl := ℕ) (pcfgs (F := F)) defs₀ Variants.none LL lv₀ :=
  (Cert.RegionHost.exRegion (pcfgs (F := F)) adm () cellOf_inj ER defs₀ Variants.none LL lv₀ (fun V c => Args m c V)
    (fun V => Pipeline.toRsF (pcfgs (F := F)) adm (pd V) fg) 1 (fun V => R1 V) (fun _ => iprop(emp))).conseq
    (fun c => iprop(bufs m c ∗ side c ∗ ghost 1 c)) (fun c => iprop(bufs m c ∗ side c))
    (fun c => by
      show _ ⊢ iprop((∃ V, ⌜Args m c V⌝ ∗ (R1 V).pre c) ∗ ghost 1 c ∗ iprop(emp))
      unfold bufs
      iintro ⟨⟨%V, %hV, Hh⟩, Hs, Hg1⟩
      isplitl [Hh Hs]
      · iexists V
        isplitr; · ipureintro; exact hV
        iapply (R1_pre V c)
        isplitl [Hh]; · iexact Hh
        iexact Hs
      isplitl [Hg1]; · iexact Hg1
      iempintro)
    (fun c => by
      show iprop((∃ V, ⌜Args m c V⌝ ∗ (R1 V).post c) ∗ iprop(emp)) ⊢ _
      iintro ⟨⟨%V, %hV, Hh⟩, -⟩
      iapply (R1_post m V c hV)
      iexact Hh)

/-- The host stretch after the regions. -/
def S3 : HostSeg (Ix := Unit) (Name := ℕ) (U := UU) (Lvl := ℕ) (pcfgs (F := F)) defs₀ Variants.none LL lv₀ :=
  exOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (Args m) (Args m) (args_host2 m)
    (fun c => side c)

/-- The launch element: both copies of the pipelines' ghost state. -/
def u₀ : UU := (initOf (Pipeline.cells cfgs cellOf_inj) (Pipeline.launchToks cfgs cellOf_inj),
  initOf (Pipeline.cells cfgs cellOf_inj) (Pipeline.launchToks cfgs cellOf_inj))

/-- The launch deals every core the regions' ghost state. -/
theorem deal : (ownU u₀ : sProp 𝕄)
    ⊢ |={Set.univ}=> iprop(BI.own ((embL : Emb (URounds (GSem nD τ sig) Unit) 𝕄) (initOf (Pipeline.cells cfgs cellOf_inj) (Pipeline.launchToks cfgs cellOf_inj)))
      ∗ bigSep Finset.univ fun c : Dev nD => iprop(ghost (F := F) 0 c ∗ ghost (F := F) 1 c)) := by
  unfold u₀
  iintro Hu
  ihave H := (ownU_pair _ _) $$ Hu
  icases H with ⟨HP, HR⟩
  imod (Pipeline.fund_ghost cfgs (ER (F := F)) cellOf_inj) $$ HR with ⟨Hg, Ht⟩
  imodintro
  isplitl [HP]; · iexact HP
  have hj : iprop((bigSep Finset.univ fun c : Dev nD => bigSep Finset.univ fun p => cellsGhost cfgs (ER (F := F)) p c)
      ∗ (bigSep Finset.univ fun c : Dev nD => bigSep Finset.univ fun p => toksInit cfgs (ER (F := F)) p c))
      ⊢ (bigSep Finset.univ fun c : Dev nD => iprop(ghost (F := F) 0 c ∗ ghost (F := F) 1 c) : sProp 𝕄) := by
    rw [← bigSep_sep']
    refine bigSep_mono fun c _ => ?_
    have h2 : (Finset.univ : Finset (Fin 2)) = insert 0 {1} := by decide
    rw [h2, bigSep_insert (by decide), bigSep_insert (by decide), bigSep_singleton, bigSep_singleton]
    show iprop((cellsGhost (pin (pcfgs (F := F)) adm) ER 0 c ∗ cellsGhost (pin (pcfgs (F := F)) adm) ER 1 c) ∗ (toksInit (pin (pcfgs (F := F)) adm) ER 0 c ∗ toksInit (pin (pcfgs (F := F)) adm) ER 1 c)) ⊢ (iprop(ghost (F := F) 0 c ∗ ghost (F := F) 1 c) : sProp 𝕄)
    iintro ⟨⟨Hg0, Hg1⟩, Ht0, Ht1⟩
    isplitl [Hg0 Ht0]
    · isplitl [Hg0]; · iexact Hg0
      iexact Ht0
    isplitl [Hg1]; · iexact Hg1
    iexact Ht1
  iapply hj
  isplitl [Hg]; · iexact Hg
  iexact Ht

set_option backward.isDefEq.respectTransparency.types false in
/-- From any launch memory the program ends, with every argument as launched and every semaphore at zero. -/
theorem run_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine Pipeline.RDat.θ_run_regions_kit_dev_sems (pcfgs (F := F)) adm
    (Pipeline.toRsF (pcfgs (F := F)) adm (pd (V0 m ⟨0, by decide⟩)) fg) () cellOf_inj
    (embL : Emb (URounds (GSem nD τ sig) Unit) 𝕄) defs₀ Variants.none LL lv₀ m ρ main
    (fun _ => [.host (S0 m), .host (S1 m), .host (S2 m), .host (S3 m)])
    (fun c Q => by
      rewrite [main_chain c, Pipeline.RDat.Seg.run_eq_chain]
      exact .rfl)
    (fun c => by simp [Pipeline.RDat.Seg.pipes, Pipeline.RDat.Seg.pipe?]) (fun _ => 0)
    (fun g h => by unfold LL; rw [if_neg h]) (fun c => iprop(ghost (F := F) 0 c ∗ ghost (F := F) 1 c)) u₀ deal
    (T₀ := fun c => iprop((∃ V, ⌜Args m c V⌝ ∗ StableHlo.held (c.tc : Thread nD τ) (Pipeline.ucRefs τ sig) V) ∗ side c ∗ ghost 0 c ∗ ghost 1 c))
    (Tₙ := fun c => bufs m c)
    (hch := fun c => ⟨.rfl, ?_, .rfl, ?_, ?_⟩)
    (hinit := Pipeline.initEach LL lv₀ fun c => ?_)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h hz => ⟨h, funext fun g => hz g (.inr (regions_no_unscoped g.2))⟩)
  · exact .rfl
  · exact .rfl
  · show iprop((∃ V, ⌜Args m c V⌝ ∗ StableHlo.held (c.tc : Thread nD τ) (Pipeline.ucRefs τ sig) V) ∗ side c) ⊢ _
    unfold bufs side
    iintro ⟨Hb, Hp, Ho⟩
    isplitl [Hb]; · iexact Hb
    iexact Ho
  · rw [← show StableHlo.held (c : Thread nD τ) (Pipeline.ucRefs τ sig) (V0 m c) = unscopedBufs c (fun b => m ((c.tc : Thread nD τ).loc b)) from
      Pipeline.unscopedBufs_held (Ix := Unit) (Name := ℕ) (U := UU) (Lvl := ℕ) c (V0 m c)]
    unfold side
    iintro ⟨⟨Hh, Hs, Ho, Hc, Hp, Hg0, Hg1⟩, Hla⟩
    imodintro
    isplitl [Hh]
    · iexists (V0 m c)
      isplitr; · ipureintro; exact fun r _ => rfl
      iexact Hh
    isplitl [Hp Ho]
    · isplitl [Hp]; · iexists _; iexact Hp
      iexists _; iexact Ho
    isplitl [Hg0]; · iexact Hg0
    iexact Hg1
  · unfold bufs StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      have rd : ∀ r ∈ argRefs, (Proc.devRef .tc r : DevRef τ sig).isScoped = false → s'.mem.mem ((c.tc : Thread nD τ).loc r) = m ((c.tc : Thread nD τ).loc r) :=
        fun r hr hu => (h (Proc.devRef .tc r) (Finset.mem_filter.mpr ⟨StableHlo.devRef_mem_tcRefs r, by simpa using hu⟩)).trans (hV r hr)
      exact ⟨rd main_arg0 (by decide) (by decide),
      rd main_arg1 (by decide) (by decide),
      rd main_arg2 (by decide) (by decide),
      rd main_arg3 (by decide) (by decide),
      rd main_arg4 (by decide) (by decide),
      rd main_arg5 (by decide) (by decide),
      rd main_arg6 (by decide) (by decide),
      rd main_arg7 (by decide) (by decide),
      rd main_arg8 (by decide) (by decide)⟩
    iexact HSI

end Cert.KernelIdeal.Regions
-- ==== Proof.RefRun.lean ====
/-
  The reference's run: @main's operations in four stretches, and what they leave in every buffer.
-/
module

public import proofs.«01_k».proof.Proof.Gen.ReferenceIdeal
public import Idealize.ShloMosaic.Lib.StableHlo.Run
public import Idealize.ShloMosaic.Lib.Quiescent
public import Idealize.ShloMosaic.Lib.Pipeline.Regions

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo Idealize.SL.Sem

variable {F : FTy → Type} [FloatOps F]

/-- The operations of the logits. -/
abbrev logitsOps : List (HloOp τ sig (Elt F)) :=
  [ unary main_arg2 main_v0 (uitofp .f32 : (⟨S64x32, .i1⟩ : BufTy).Contents (Elt F) → (⟨S64x32, .f32⟩ : BufTy).Contents (Elt F)),
    binary main_arg1 main_v0 main_v1 (mulf : (⟨S64x32, .f32⟩ : BufTy).Contents (Elt F) → (⟨S64x32, .f32⟩ : BufTy).Contents (Elt F) → (⟨S64x32, .f32⟩ : BufTy).Contents (Elt F)),
    nary ![main_arg0, main_v1, main_v0] main_v2 (fun u => (concatenate S64x1088 1 [⟨S64x1024, (u 0 : (⟨S64x1024, .f32⟩ : BufTy).Contents (Elt F))⟩, ⟨S64x32, (u 1 : (⟨S64x32, .f32⟩ : BufTy).Contents (Elt F))⟩, ⟨S64x32, (u 2 : (⟨S64x32, .f32⟩ : BufTy).Contents (Elt F))⟩] concatenates_S64x1024_S64x32_S64x32_S64x1088_d1 : (⟨S64x1088, .f32⟩ : BufTy).Contents (Elt F))),
    binary main_v2 main_arg4 main_v3 ((fun l r => Host.dotGeneral dot_S64x1088_S1088x256_S64x256_1_0_0_1_n_n none l r) : (⟨S64x1088, .f32⟩ : BufTy).Contents (Elt F) → (⟨S1088x256, .f32⟩ : BufTy).Contents (Elt F) → (⟨S64x256, .f32⟩ : BufTy).Contents (Elt F)),
    unary main_arg5 main_v4 (broadcastInDim S1x256 ![1] bcast_S256_S1x256_1 : (⟨S256, .f32⟩ : BufTy).Contents (Elt F) → (⟨S1x256, .f32⟩ : BufTy).Contents (Elt F)),
    unary main_v4 main_v5 (broadcastInDim S64x256 ![0, 1] bcast_S1x256_S64x256_0_1 : (⟨S1x256, .f32⟩ : BufTy).Contents (Elt F) → (⟨S64x256, .f32⟩ : BufTy).Contents (Elt F)),
    binary main_v3 main_v5 main_v6 (addf : (⟨S64x256, .f32⟩ : BufTy).Contents (Elt F) → (⟨S64x256, .f32⟩ : BufTy).Contents (Elt F) → (⟨S64x256, .f32⟩ : BufTy).Contents (Elt F)),
    nullary main_c (constantI S_ 32 0#32),
    binary main_arg3 main_c main_v7 (cmpi .slt : (⟨S_, .i32⟩ : BufTy).Contents (Elt F) → (⟨S_, .i32⟩ : BufTy).Contents (Elt F) → (⟨S_, .i1⟩ : BufTy).Contents (Elt F)),
    nullary main_c_0 (constantI S_ 32 32#32),
    binary main_arg3 main_c_0 main_v8 (addi : (⟨S_, .i32⟩ : BufTy).Contents (Elt F) → (⟨S_, .i32⟩ : BufTy).Contents (Elt F) → (⟨S_, .i32⟩ : BufTy).Contents (Elt F)),
    ternary main_v7 main_v8 main_arg3 main_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v10 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 256#32),
    binary main_c_3 main_c_4 main_v11 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v10 main_v11 main_c_5 main_v12 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg8 ![main_v9, main_v12] ⟨S_, .i32⟩ main_v13 ((fun x i => Host.dynamicSlice S1x256 x (fun k => (i k (Shape.Idx.first h_S_)).toInt) sliceFits_S32x256_S1x256) : (⟨S32x256, .f32⟩ : BufTy).Contents (Elt F) → (Fin 2 → (⟨S_, .i32⟩ : BufTy).Contents (Elt F)) → (⟨S1x256, .f32⟩ : BufTy).Contents (Elt F)),
    reshape main_v13 main_v14 (rfl : (.f32 : EltTy) = .f32) shapeCasts_S1x256_S256,
    unary main_v14 main_v15 (broadcastInDim S1x256 ![1] bcast_S256_S1x256_1 : (⟨S256, .f32⟩ : BufTy).Contents (Elt F) → (⟨S1x256, .f32⟩ : BufTy).Contents (Elt F)),
    unary main_v15 main_v16 (broadcastInDim S64x256 ![0, 1] bcast_S1x256_S64x256_0_1 : (⟨S1x256, .f32⟩ : BufTy).Contents (Elt F) → (⟨S64x256, .f32⟩ : BufTy).Contents (Elt F)),
    binary main_v6 main_v16 main_v17 (addf : (⟨S64x256, .f32⟩ : BufTy).Contents (Elt F) → (⟨S64x256, .f32⟩ : BufTy).Contents (Elt F) → (⟨S64x256, .f32⟩ : BufTy).Contents (Elt F)),
    nullary main_call0_cst (constant S_ .f32 0x00000000#32),
    unary main_call0_cst main_call0_v0 ((broadcastInDim S64x256 ![] bcast_S_S64x256) : (⟨S_, .f32⟩ : BufTy).Contents (Elt F) → (⟨S64x256, .f32⟩ : BufTy).Contents (Elt F)),
    binary main_v17 main_call0_v0 main_v18 (maximumf : (⟨S64x256, .f32⟩ : BufTy).Contents (Elt F) → (⟨S64x256, .f32⟩ : BufTy).Contents (Elt F) → (⟨S64x256, .f32⟩ : BufTy).Contents (Elt F)),
    binary main_v18 main_arg6 main_v19 ((fun l r => Host.dotGeneral dot_S64x256_S256x100000_S64x100000_1_0_0_1_n_n none l r) : (⟨S64x256, .f32⟩ : BufTy).Contents (Elt F) → (⟨S256x100000, .f32⟩ : BufTy).Contents (Elt F) → (⟨S64x100000, .f32⟩ : BufTy).Contents (Elt F)),
    unary main_arg7 main_v20 (broadcastInDim S1x100000 ![1] bcast_S100000_S1x100000_1 : (⟨S100000, .f32⟩ : BufTy).Contents (Elt F) → (⟨S1x100000, .f32⟩ : BufTy).Contents (Elt F)),
    unary main_v20 main_v21 (broadcastInDim S64x100000 ![0, 1] bcast_S1x100000_S64x100000_0_1 : (⟨S1x100000, .f32⟩ : BufTy).Contents (Elt F) → (⟨S64x100000, .f32⟩ : BufTy).Contents (Elt F)),
    binary main_v19 main_v21 main_v22 (addf : (⟨S64x100000, .f32⟩ : BufTy).Contents (Elt F) → (⟨S64x100000, .f32⟩ : BufTy).Contents (Elt F) → (⟨S64x100000, .f32⟩ : BufTy).Contents (Elt F)) ]

/-- The operations of the softmax. -/
abbrev probsOps : List (HloOp τ sig (Elt F)) :=
  [ nullary main_cst (constant S_ .f32 0xFF800000#32),
    binary main_v22 main_cst main_v23 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    nullary main_cst_6 (constant S_ .f32 0xFF800000#32),
    unary main_cst_6 main_v24 (broadcastInDim S64 ![] bcast_S_S64 : (⟨S_, .f32⟩ : BufTy).Contents (Elt F) → (⟨S64, .f32⟩ : BufTy).Contents (Elt F)),
    binary main_v24 main_v23 main_v25 (maximumf : (⟨S64, .f32⟩ : BufTy).Contents (Elt F) → (⟨S64, .f32⟩ : BufTy).Contents (Elt F) → (⟨S64, .f32⟩ : BufTy).Contents (Elt F)),
    unary main_v25 main_v26 (broadcastInDim S64x1 ![0] bcast_S64_S64x1_0 : (⟨S64, .f32⟩ : BufTy).Contents (Elt F) → (⟨S64x1, .f32⟩ : BufTy).Contents (Elt F)),
    unary main_v26 main_v27 (broadcastInDim S64x100000 ![0, 1] bcast_S64x1_S64x100000_0_1 : (⟨S64x1, .f32⟩ : BufTy).Contents (Elt F) → (⟨S64x100000, .f32⟩ : BufTy).Contents (Elt F)),
    binary main_v22 main_v27 main_v28 (subf : (⟨S64x100000, .f32⟩ : BufTy).Contents (Elt F) → (⟨S64x100000, .f32⟩ : BufTy).Contents (Elt F) → (⟨S64x100000, .f32⟩ : BufTy).Contents (Elt F)),
    unary main_v28 main_v29 (Host.exp : (⟨S64x100000, .f32⟩ : BufTy).Contents (Elt F) → (⟨S64x100000, .f32⟩ : BufTy).Contents (Elt F)),
    nullary main_cst_7 (constant S_ .f32 0x00000000#32),
    binary main_v29 main_cst_7 main_v30 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v30 main_v31 (broadcastInDim S64x1 ![0] bcast_S64_S64x1_0 : (⟨S64, .f32⟩ : BufTy).Contents (Elt F) → (⟨S64x1, .f32⟩ : BufTy).Contents (Elt F)),
    unary main_v31 main_v32 (broadcastInDim S64x100000 ![0, 1] bcast_S64x1_S64x100000_0_1 : (⟨S64x1, .f32⟩ : BufTy).Contents (Elt F) → (⟨S64x100000, .f32⟩ : BufTy).Contents (Elt F)),
    binary main_v29 main_v32 main_v33 (Host.divf : (⟨S64x100000, .f32⟩ : BufTy).Contents (Elt F) → (⟨S64x100000, .f32⟩ : BufTy).Contents (Elt F) → (⟨S64x100000, .f32⟩ : BufTy).Contents (Elt F)) ]

/-- The operations of the arg-max. -/
abbrev argOps : List (HloOp τ sig (Elt F)) :=
  [ nullary main_call1_v0 (iotaInDim S64x100000 32 1),
    nullary main_call1_cst (constant S_ .f32 0xFF800000#32),
    nullary main_call1_c (constantI S_ 32 0#32),
    quaternary main_v22 main_call1_v0 main_call1_cst main_call1_c main_call1_v1_0 ((fun x y u v j => (Host.argReduce reducer_argmax_f32_i32 x y u v reducesTo_S64x100000_S64_d1 h_S_ j).1) : (⟨S64x100000, .f32⟩ : BufTy).Contents (Elt F) → (⟨S64x100000, .i32⟩ : BufTy).Contents (Elt F) → (⟨S_, .f32⟩ : BufTy).Contents (Elt F) → (⟨S_, .i32⟩ : BufTy).Contents (Elt F) → (⟨S64, .f32⟩ : BufTy).Contents (Elt F)),
    quaternary main_v22 main_call1_v0 main_call1_cst main_call1_c main_v34 ((fun x y u v j => (Host.argReduce reducer_argmax_f32_i32 x y u v reducesTo_S64x100000_S64_d1 h_S_ j).2) : (⟨S64x100000, .f32⟩ : BufTy).Contents (Elt F) → (⟨S64x100000, .i32⟩ : BufTy).Contents (Elt F) → (⟨S_, .f32⟩ : BufTy).Contents (Elt F) → (⟨S_, .i32⟩ : BufTy).Contents (Elt F) → (⟨S64, .i32⟩ : BufTy).Contents (Elt F)) ]

/-- The operations of the log-sum-exp and the actions. -/
abbrev actOps : List (HloOp τ sig (Elt F)) :=
  [ nullary main_cst_8 (constant S_ .f32 0xFF800000#32),
    binary main_v22 main_cst_8 main_v35 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v35 main_v36 (broadcastInDim S64x1 ![0] bcast_S64_S64x1_0 : (⟨S64, .f32⟩ : BufTy).Contents (Elt F) → (⟨S64x1, .f32⟩ : BufTy).Contents (Elt F)),
    unary main_v36 main_v37 (broadcastInDim S64x100000 ![0, 1] bcast_S64x1_S64x100000_0_1 : (⟨S64x1, .f32⟩ : BufTy).Contents (Elt F) → (⟨S64x100000, .f32⟩ : BufTy).Contents (Elt F)),
    binary main_v22 main_v37 main_v38 (subf : (⟨S64x100000, .f32⟩ : BufTy).Contents (Elt F) → (⟨S64x100000, .f32⟩ : BufTy).Contents (Elt F) → (⟨S64x100000, .f32⟩ : BufTy).Contents (Elt F)),
    unary main_v38 main_v39 (Host.exp : (⟨S64x100000, .f32⟩ : BufTy).Contents (Elt F) → (⟨S64x100000, .f32⟩ : BufTy).Contents (Elt F)),
    nullary main_cst_9 (constant S_ .f32 0x00000000#32),
    binary main_v39 main_cst_9 main_v40 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v40 main_v41 (Host.log : (⟨S64, .f32⟩ : BufTy).Contents (Elt F) → (⟨S64, .f32⟩ : BufTy).Contents (Elt F)),
    binary main_v35 main_v41 main_v42 (addf : (⟨S64, .f32⟩ : BufTy).Contents (Elt F) → (⟨S64, .f32⟩ : BufTy).Contents (Elt F) → (⟨S64, .f32⟩ : BufTy).Contents (Elt F)),
    unary main_v34 main_v43 (sitofp .f32 : (⟨S64, .i32⟩ : BufTy).Contents (Elt F) → (⟨S64, .f32⟩ : BufTy).Contents (Elt F)),
    binary main_v42 main_v42 main_v44 (subf : (⟨S64, .f32⟩ : BufTy).Contents (Elt F) → (⟨S64, .f32⟩ : BufTy).Contents (Elt F) → (⟨S64, .f32⟩ : BufTy).Contents (Elt F)),
    binary main_v43 main_v44 main_v45 (addf : (⟨S64, .f32⟩ : BufTy).Contents (Elt F) → (⟨S64, .f32⟩ : BufTy).Contents (Elt F) → (⟨S64, .f32⟩ : BufTy).Contents (Elt F)) ]

/-- The buffers that the operations of the logits write. -/
abbrev logitsOpsW : List (Ref sig .tc) :=
  [main_v0, main_v1, main_v2, main_v3, main_v4, main_v5, main_v6, main_c, main_v7, main_c_0, main_v8, main_v9, main_c_1, main_c_2, main_v10, main_c_3, main_c_4, main_v11, main_c_5, main_v12, main_v13, main_v14, main_v15, main_v16, main_v17, main_call0_cst, main_call0_v0, main_v18, main_v19, main_v20, main_v21, main_v22]
/-- The buffers these operations write, and that they use only buffers of this program. -/
theorem logitsOps_writes : (logitsOps : List (HloOp τ sig (Elt F))).Forall fun op => op.writes ⊆ (logitsOpsW.map (Proc.devRef (τ := τ) .tc)).toFinset :=
  forall_writes_sub_of_map rfl
theorem logitsOps_sub : (logitsOps : List (HloOp τ sig (Elt F))).Forall fun op => op.bufs ⊆ tcRefs τ sig :=
  ⟨unary_bufs_sub .., binary_bufs_sub .., nary_bufs_sub .., binary_bufs_sub .., unary_bufs_sub .., unary_bufs_sub .., binary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The buffers that the operations of the softmax write. -/
abbrev probsOpsW : List (Ref sig .tc) :=
  [main_cst, main_v23, main_cst_6, main_v24, main_v25, main_v26, main_v27, main_v28, main_v29, main_cst_7, main_v30, main_v31, main_v32, main_v33]
/-- The buffers these operations write, and that they use only buffers of this program. -/
theorem probsOps_writes : (probsOps : List (HloOp τ sig (Elt F))).Forall fun op => op.writes ⊆ (probsOpsW.map (Proc.devRef (τ := τ) .tc)).toFinset :=
  forall_writes_sub_of_map rfl
theorem probsOps_sub : (probsOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- The buffers that the operations of the arg-max write. -/
abbrev argOpsW : List (Ref sig .tc) :=
  [main_call1_v0, main_call1_cst, main_call1_c, main_call1_v1_0, main_v34]
/-- The buffers these operations write, and that they use only buffers of this program. -/
theorem argOps_writes : (argOps : List (HloOp τ sig (Elt F))).Forall fun op => op.writes ⊆ (argOpsW.map (Proc.devRef (τ := τ) .tc)).toFinset :=
  forall_writes_sub_of_map rfl
theorem argOps_sub : (argOps : List (HloOp τ sig (Elt F))).Forall fun op => op.bufs ⊆ tcRefs τ sig :=
  ⟨nullary_bufs_sub .., nullary_bufs_sub .., nullary_bufs_sub .., quaternary_bufs_sub .., quaternary_bufs_sub ..⟩

/-- The buffers that the operations of the log-sum-exp and the actions write. -/
abbrev actOpsW : List (Ref sig .tc) :=
  [main_cst_8, main_v35, main_v36, main_v37, main_v38, main_v39, main_cst_9, main_v40, main_v41, main_v42, main_v43, main_v44, main_v45]
/-- The buffers these operations write, and that they use only buffers of this program. -/
theorem actOps_writes : (actOps : List (HloOp τ sig (Elt F))).Forall fun op => op.writes ⊆ (actOpsW.map (Proc.devRef (τ := τ) .tc)).toFinset :=
  forall_writes_sub_of_map rfl
theorem actOps_sub : (actOps : List (HloOp τ sig (Elt F))).Forall fun op => op.bufs ⊆ tcRefs τ sig :=
  ⟨nullary_bufs_sub .., binary_bufs_sub .., unary_bufs_sub .., unary_bufs_sub .., binary_bufs_sub .., unary_bufs_sub .., nullary_bufs_sub .., binary_bufs_sub .., unary_bufs_sub .., binary_bufs_sub .., unary_bufs_sub .., binary_bufs_sub .., binary_bufs_sub ..⟩

/-- @main's operations. -/
abbrev ops : List (HloOp τ sig (Elt F)) := logitsOps ++ probsOps ++ argOps ++ actOps

/-- @relu's three operations, and @argmax's five, are straight lines too. -/
abbrev reluOps : List (HloOp τ sig (Elt F)) :=
  [ nullary main_call0_cst (constant S_ .f32 0x00000000#32),
    unary main_call0_cst main_call0_v0 ((broadcastInDim S64x256 ![] bcast_S_S64x256) : (⟨S_, .f32⟩ : BufTy).Contents (Elt F) → (⟨S64x256, .f32⟩ : BufTy).Contents (Elt F)),
    binary main_v17 main_call0_v0 main_v18 (maximumf : (⟨S64x256, .f32⟩ : BufTy).Contents (Elt F) → (⟨S64x256, .f32⟩ : BufTy).Contents (Elt F) → (⟨S64x256, .f32⟩ : BufTy).Contents (Elt F)) ]
/-- The called functions are their operations in a row. -/
theorem relu_eq : fn_relu.body (F := F) (.of main_v17) main_call0 = seq reluOps := by chain_rfl
theorem argmax_eq : fn_argmax.body (F := F) (.of main_v22) main_call1 = seq argOps := by chain_rfl
/-- @main is that straight line. -/
theorem main_eq (c : Dev nD) : main (F := F) c = seq ops := by
  unfold main
  rw [relu_eq, argmax_eq]
  simp only [ops, logitsOps, reluOps, probsOps, argOps, actOps, List.cons_append, List.nil_append, seq, bind_assoc, pure_bind]

/-- Nothing is scoped on this signature. -/
theorem scopedRefs_eq : (Finset.univ.filter fun b : Ref sig .tc => b.isScoped) = ∅ := by decide
/-- The program has no scoped semaphores. -/
theorem scopedSems_eq : (Finset.univ.filter fun sm : SemLoc sig => sm.isScoped .tc) = ∅ := by decide

/-- Every operation uses only buffers of this program. -/
theorem ops_sub : (ops : List (HloOp τ sig (Elt F))).Forall fun op => op.bufs ⊆ tcRefs τ sig :=
  List.forall_iff_forall_mem.mpr fun op h => by
    simp only [ops, List.mem_append] at h
    rcases h with ((h | h) | h) | h
    · exact List.forall_iff_forall_mem.mp logitsOps_sub op h
    · exact List.forall_iff_forall_mem.mp probsOps_sub op h
    · exact List.forall_iff_forall_mem.mp argOps_sub op h
    · exact List.forall_iff_forall_mem.mp actOps_sub op h

/-- The contents after the logits. -/
abbrev VA (V : Valuation τ sig (Elt F)) : Valuation τ sig (Elt F) := after logitsOps V
/-- The contents after the softmax. -/
abbrev VB (V : Valuation τ sig (Elt F)) : Valuation τ sig (Elt F) := after probsOps (VA V)
/-- The contents after the arg-max. -/
abbrev VC (V : Valuation τ sig (Elt F)) : Valuation τ sig (Elt F) := after argOps (VB V)
/-- The contents at the end. -/
abbrev VD (V : Valuation τ sig (Elt F)) : Valuation τ sig (Elt F) := after actOps (VC V)

/-- After all the operations the buffers are at `VD`. -/
theorem after_ops (V : Valuation τ sig (Elt F)) : after ops V = VD V := rfl

/-- A buffer that no operation writes keeps its contents. -/
theorem keeps (V : Valuation τ sig (Elt F)) (r : Ref sig .tc) (hA : r ∉ logitsOpsW) (hB : r ∉ probsOpsW) (hC : r ∉ argOpsW)
    (hD : r ∉ actOpsW) : VD V (Proc.devRef .tc r) = V (Proc.devRef .tc r) :=
  (after_of_writes_sub actOps _ actOps_writes hD).trans ((after_of_writes_sub argOps _ argOps_writes hC).trans
    ((after_of_writes_sub probsOps _ probsOps_writes hB).trans (after_of_writes_sub logitsOps _ logitsOps_writes hA)))

/-- From any launch memory the reference ends, every buffer at what the operations leave, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = VD (launchContents m c) (Proc.devRef .tc b))
        ∧ r.2.sem = fun _ => 0 :=
  (θ_run defs _ _).mono (fun r h => ⟨h, sem_eq_zero_of_no_sems rfl r.2⟩)
    (run_seq scopedRefs_eq scopedSems_eq defs main (fun _ => ops) main_eq (fun _ => ops_sub) m ρ)

end Cert.ReferenceIdeal.Host
-- ==== Proof.Online.lean ====
module

public import Idealize.ShloMosaic.PureOps.Ideal.Laws

/-! # A row read block by block

A row of real numbers `x 0 … x (K - 1)`, followed by −∞, is read in blocks. After the first `n` entries three numbers
are kept: the running maximum, the sum of the exponentials of the entries less that maximum, and the place of the first
entry that attains it. This file says how each changes when a further block is read. -/

@[expose] public section

noncomputable section

namespace Cert.Online

open Idealize Idealize.ShloMosaic

/-- The row's entries are real below `K` and −∞ from there on. -/
structure Row (K : ℕ) (x : ℕ → EReal) : Prop where
  fin : ∀ c, c < K → ∃ r : ℝ, x c = r
  bot : ∀ c, K ≤ c → x c = ⊥

/-- The maximum of the first `n` entries, −∞ where there are none. -/
def mx (x : ℕ → EReal) (n : ℕ) : EReal := (Finset.range n).sup x

/-- The sum, over the first `n` entries, of the exponentials of the entries less `M`. -/
def se (x : ℕ → EReal) (M : EReal) (n : ℕ) : EReal := ∑ c ∈ Finset.range n, Ideal.exp (x c - M)

/-- `a` is the place of the first entry that attains the maximum of the first `n`. -/
structure First (x : ℕ → EReal) (n a : ℕ) : Prop where
  lt : a < n
  eq : x a = mx x n
  first : ∀ c, c < a → x c ≠ mx x n

open Classical in
/-- The place of the first maximum of the first `n` entries, 0 where there are none. -/
def am (x : ℕ → EReal) (n : ℕ) : ℕ := if h : ∃ a, First x n a then h.choose else 0

/-- There is one first place of the maximum. -/
theorem First.unique {x : ℕ → EReal} {n a b : ℕ} (ha : First x n a) (hb : First x n b) : a = b := by
  rcases lt_trichotomy a b with h | h | h
  · exact absurd ha.eq (hb.first a h)
  · exact h
  · exact absurd hb.eq (ha.first b h)

/-- The first place of the maximum is `am`. -/
theorem First.am_eq {x : ℕ → EReal} {n a : ℕ} (ha : First x n a) : am x n = a := by
  have h : ∃ a, First x n a := ⟨a, ha⟩
  unfold am
  rw [dif_pos h]
  exact h.choose_spec.unique ha

@[simp] theorem mx_zero (x : ℕ → EReal) : mx x 0 = ⊥ := by simp [mx]

@[simp] theorem se_zero (x : ℕ → EReal) (M : EReal) : se x M 0 = 0 := by simp [se]

@[simp] theorem am_zero (x : ℕ → EReal) : am x 0 = 0 := by
  unfold am
  rw [dif_neg]
  rintro ⟨a, h⟩
  exact absurd h.lt (Nat.not_lt_zero _)

/-- An entry is at most the maximum. -/
theorem le_mx (x : ℕ → EReal) {n c : ℕ} (h : c < n) : x c ≤ mx x n := Finset.le_sup (f := x) (Finset.mem_range.2 h)

/-- The maximum is at most any bound. -/
theorem mx_le (x : ℕ → EReal) {n : ℕ} {b : EReal} (h : ∀ c, c < n → x c ≤ b) : mx x n ≤ b :=
  Finset.sup_le fun c hc => h c (Finset.mem_range.1 hc)

/-- The maximum is attained, where there are entries. -/
theorem exists_eq_mx (x : ℕ → EReal) {n : ℕ} (h : 0 < n) : ∃ c, c < n ∧ x c = mx x n := by
  obtain ⟨c, hc, e⟩ := Finset.exists_mem_eq_sup (Finset.range n) ⟨0, Finset.mem_range.2 h⟩ x
  exact ⟨c, Finset.mem_range.1 hc, e.symm⟩

/-- There is a first maximum, where there are entries. -/
theorem exists_first (x : ℕ → EReal) {n : ℕ} (h : 0 < n) : ∃ a, First x n a := by
  classical
  have e := exists_eq_mx x h
  exact ⟨Nat.find e, (Nat.find_spec e).1, (Nat.find_spec e).2, fun c hc hx =>
    Nat.find_min e hc ⟨lt_trans hc (Nat.find_spec e).1, hx⟩⟩

/-- `am` is the first place of the maximum. -/
theorem first_am (x : ℕ → EReal) {n : ℕ} (h : 0 < n) : First x n (am x n) := by
  obtain ⟨a, ha⟩ := exists_first x h
  rw [ha.am_eq]
  exact ha

/-- The maximum after a further block is the larger of the two maxima. -/
theorem mx_add (x : ℕ → EReal) (n b : ℕ) : mx x (n + b) = max (mx x n) (mx (fun c => x (n + c)) b) := by
  refine le_antisymm (mx_le x fun c hc => ?_) (max_le (mx_le x fun c hc => le_mx x (by omega))
    (mx_le _ fun c hc => le_mx x (by omega)))
  by_cases h : c < n
  · exact le_max_of_le_left (le_mx x h)
  · have := le_mx (fun c => x (n + c)) (show c - n < b by omega)
    rw [show x c = (fun c => x (n + c)) (c - n) by simp only; congr 1; omega]
    exact le_max_of_le_right this

variable {K : ℕ} {x : ℕ → EReal}

/-- The maximum of a real row is real. -/
theorem Row.real_mx (hx : Row K x) {n : ℕ} (hK : 0 < K) (h : 0 < n) : ∃ r : ℝ, mx x n = r := by
  obtain ⟨c, hc, e⟩ := exists_eq_mx x h
  by_cases hcK : c < K
  · rw [← e]; exact hx.fin c hcK
  · have hb := hx.bot c (not_lt.1 hcK)
    obtain ⟨r, hr⟩ := hx.fin 0 hK
    have := le_mx x h
    rw [← e, hb, hr] at this
    exact absurd this (by simp)

/-- A later part of the row is such a row again. -/
theorem Row.shift (hx : Row K x) (n : ℕ) : Row (K - n) fun c => x (n + c) :=
  ⟨fun c hc => hx.fin _ (by omega), fun c hc => hx.bot _ (by omega)⟩

/-- The real number an exponential of an entry less a real number is. -/
def wt (x : ℕ → EReal) (m : ℝ) (c : ℕ) : ℝ := if x c = ⊥ then 0 else Real.exp ((x c).toReal - m)

/-- The exponential of an entry less a real is its weight. -/
theorem Row.exp_sub (hx : Row K x) (m : ℝ) (c : ℕ) : Ideal.exp (x c - (m : EReal)) = (wt x m c : ℝ) := by
  by_cases h : c < K
  · obtain ⟨r, hr⟩ := hx.fin c h
    rw [wt, hr, if_neg (by simp), EReal.toReal_coe, ← EReal.coe_sub]
    rfl
  · rw [wt, hx.bot c (not_lt.1 h), if_pos rfl, EReal.bot_sub]
    rfl

/-- A sum of reals is the same sum at the extended reals. -/
theorem coe_sum (s : Finset ℕ) (f : ℕ → ℝ) : (∑ c ∈ s, (f c : EReal)) = ((∑ c ∈ s, f c : ℝ) : EReal) := by
  induction s using Finset.cons_induction with
  | empty => simp
  | cons a s h ih => rw [Finset.sum_cons, Finset.sum_cons, ih, EReal.coe_add]

/-- The sum of exponentials is a sum of weights. -/
theorem Row.se_coe (hx : Row K x) (m : ℝ) (n : ℕ) : se x m n = ((∑ c ∈ Finset.range n, wt x m c : ℝ) : EReal) := by
  rw [se, ← coe_sum]
  exact Finset.sum_congr rfl fun c _ => hx.exp_sub m c

/-- Changing the number subtracted rescales a weight. -/
theorem wt_mul (m m' : ℝ) (c : ℕ) : wt x m c * Real.exp (m - m') = wt x m' c := by
  unfold wt
  split
  · rw [zero_mul]
  · rw [← Real.exp_add]; congr 1; ring

/-- A sum of exponentials is brought to another maximum by one factor. -/
theorem Row.se_rescale (hx : Row K x) (m m' : ℝ) (n : ℕ) :
    se x m n * Ideal.exp ((m : EReal) - (m' : EReal)) = se x m' n := by
  rw [hx.se_coe, hx.se_coe, ← EReal.coe_sub]
  change ((∑ c ∈ Finset.range n, wt x m c : ℝ) : EReal) * ((Real.exp (m - m') : ℝ) : EReal) = _
  rw [← EReal.coe_mul, Finset.sum_mul]
  exact congrArg _ (Finset.sum_congr rfl fun c _ => wt_mul m m' c)

/-- The sum of exponentials splits at a column. -/
theorem se_add (M : EReal) (n b : ℕ) : se x M (n + b) = se x M n + se (fun c => x (n + c)) M b := by
  unfold se
  rw [Finset.sum_range_add]

/-- The sum after a further block: both sums are brought to the new maximum. -/
theorem Row.se_step (hx : Row K x) {n b : ℕ} (hn : n < K) (hb : 0 < b) :
    se x (mx x (n + b)) (n + b) = se x (mx x n) n * Ideal.exp (mx x n - mx x (n + b))
      + se (fun c => x (n + c)) (mx (fun c => x (n + c)) b) b
        * Ideal.exp (mx (fun c => x (n + c)) b - mx x (n + b)) := by
  obtain ⟨m', hm'⟩ := hx.real_mx (show 0 < K by omega) (show 0 < n + b by omega)
  obtain ⟨β, hβ⟩ := (hx.shift n).real_mx (show 0 < K - n by omega) hb
  rw [hm', hβ, (hx.shift n).se_rescale, se_add]
  congr 1
  rcases Nat.eq_zero_or_pos n with h0 | h0
  · subst h0; simp
  · obtain ⟨m, hm⟩ := hx.real_mx (show 0 < K by omega) h0
    rw [hm, hx.se_rescale]

/-- The first maximum after a further block: the block's own where the block's maximum is larger, else the old one. -/
theorem am_step (n : ℕ) {b : ℕ} (hb : 0 < b) (hbot : mx (fun c => x (n + c)) b ≠ ⊥) :
    am x (n + b) = if mx x n < mx (fun c => x (n + c)) b then n + am (fun c => x (n + c)) b else am x n := by
  have hF := first_am (fun c => x (n + c)) hb
  split
  · rename_i h
    have e : mx x (n + b) = mx (fun c => x (n + c)) b := by rw [mx_add, max_eq_right h.le]
    refine First.am_eq ⟨Nat.add_lt_add_left hF.lt n, hF.eq.trans e.symm, fun c hc => ?_⟩
    rw [e]
    by_cases hcn : c < n
    · exact ne_of_lt (lt_of_le_of_lt (le_mx x hcn) h)
    · have h' : x (n + (c - n)) ≠ mx (fun c => x (n + c)) b := hF.first (c - n) (by omega)
      rwa [show n + (c - n) = c by omega] at h'
  · rename_i h
    have h := not_lt.1 h
    have e : mx x (n + b) = mx x n := by rw [mx_add, max_eq_left h]
    have h0 : 0 < n := by
      rcases Nat.eq_zero_or_pos n with h0 | h0
      · subst h0; rw [mx_zero] at h; exact absurd (le_bot_iff.1 h) hbot
      · exact h0
    have hA := first_am x h0
    refine First.am_eq ⟨by have := hA.lt; omega, hA.eq.trans e.symm, fun c hc => ?_⟩
    rw [e]
    exact hA.first c hc

/-- Beyond the row's end nothing changes. -/
theorem Row.mx_end (hx : Row K x) {N : ℕ} (h : K ≤ N) : mx x N = mx x K := by
  refine le_antisymm (mx_le x fun c hc => ?_) (mx_le x fun c hc => le_mx x (by omega))
  by_cases hcK : c < K
  · exact le_mx x hcK
  · rw [hx.bot c (not_lt.1 hcK)]; exact bot_le

/-- Columns of −∞ change no sum of exponentials. -/
theorem Row.se_end (hx : Row K x) (hK : 0 < K) {N : ℕ} (h : K ≤ N) : se x (mx x N) N = se x (mx x K) K := by
  obtain ⟨m, hm⟩ := hx.real_mx hK hK
  rw [hx.mx_end h, hm]
  unfold se
  symm
  refine Finset.sum_subset (Finset.range_subset_range.2 h) fun c _ hc => ?_
  rw [hx.bot c (by simpa using hc), EReal.bot_sub]
  rfl

/-- Columns of −∞ change no first place. -/
theorem Row.am_end (hx : Row K x) (hK : 0 < K) {N : ℕ} (h : K ≤ N) : am x N = am x K := by
  have hA := first_am x hK
  exact First.am_eq ⟨lt_of_lt_of_le hA.lt h, hA.eq.trans (hx.mx_end h).symm, fun c hc => by
    rw [hx.mx_end h]; exact hA.first c hc⟩

/-- The sum of the exponentials less the maximum is a positive real number. -/
theorem Row.real_se (hx : Row K x) (hK : 0 < K) : ∃ s : ℝ, 0 < s ∧ se x (mx x K) K = s := by
  obtain ⟨m, hm⟩ := hx.real_mx hK hK
  refine ⟨∑ c ∈ Finset.range K, wt x m c, Finset.sum_pos (fun c hc => ?_) ⟨0, Finset.mem_range.2 hK⟩, ?_⟩
  · obtain ⟨r, hr⟩ := hx.fin c (Finset.mem_range.1 hc)
    rw [wt, if_neg (by rw [hr]; simp)]
    exact Real.exp_pos _
  · rw [hm, hx.se_coe]

/-- The logarithm of a positive real number, at the extended reals. -/
theorem log_coe {s : ℝ} (h : 0 < s) : Ideal.log (s : EReal) = (Real.log s : ℝ) := by
  change (if s ≤ 0 then ⊥ else ((Real.log s : ℝ) : EReal)) = _
  rw [if_neg (not_le.2 h)]

/-- Subtracting the maximum and the logarithm of the sum together is dividing by the sum. -/
theorem Row.softmax (hx : Row K x) (hK : 0 < K) {c : ℕ} (hc : c < K) :
    Ideal.exp (x c - (mx x K + Ideal.log (se x (mx x K) K)))
      = Ideal.exp (x c - mx x K) / se x (mx x K) K := by
  obtain ⟨m, hm⟩ := hx.real_mx hK hK
  obtain ⟨s, hs, es⟩ := hx.real_se hK
  obtain ⟨r, hr⟩ := hx.fin c hc
  rw [es, log_coe hs, hm, hr, ← EReal.coe_add, ← EReal.coe_sub, ← EReal.coe_sub]
  change ((Real.exp (r - (m + Real.log s)) : ℝ) : EReal) = ((Real.exp (r - m) : ℝ) : EReal) / (s : EReal)
  rw [← EReal.coe_div, ← sub_sub, Real.exp_sub, Real.exp_log hs]

end Cert.Online

end
-- ==== Proof.PayIdeal.lean ====
module

public import proofs.«01_k».proof.Proof.Online
public import proofs.«01_k».proof.Proof.BodyKernelIdeal
public import Idealize.ShloMosaic.Lib.Pointwise

/-! # What one block computes, over the extended reals -/

@[expose] public section

set_option maxRecDepth 16384

noncomputable section

namespace Cert.KernelIdeal.Value

open Cert.KernelIdeal Cert.KernelIdeal.Gen Cert.KernelIdeal.Body
open Idealize.ShloMosaic Cert.Online

/-- The literal the kernel starts its maxima from is −∞. -/
theorem ofBits_neg_inf : Ideal.ofBits .f32 0xFF800000#32 = ⊥ := by
  simp [Ideal.ofBits, Ideal.ieee]

/-- The rows' running maxima after `n` columns. -/
def mVec (X : Fin 64 → ℕ → EReal) (n : ℕ) : Vec Ideal S64x1 .f32 := fun j => mx (X (j 0)) n
/-- The rows' running sums after `n` columns. -/
def sVec (X : Fin 64 → ℕ → EReal) (n : ℕ) : Vec Ideal S64x1 .f32 := fun j => se (X (j 0)) (mx (X (j 0)) n) n
/-- The rows' first maxima after `n` columns, as 32-bit words. -/
def aVec (X : Fin 64 → ℕ → EReal) (n : ℕ) : Vec Ideal S64x1 .i32 := fun j => BitVec.ofNat 32 (am (X (j 0)) n)
/-- The block of the 4096 columns from `n` on. -/
def lVec (X : Fin 64 → ℕ → EReal) (n : ℕ) : Vec Ideal S64x4096 .f32 := fun j => X (j 0) (n + (j 1).val)

/-- A fold of `max` from −∞ over a block's columns is the block's maximum. -/
theorem fold_max_range (x : ℕ → EReal) (b : ℕ) :
    (Finset.univ : Finset (Fin b)).fold max ⊥ (fun c => x c.val) = mx x b :=
  le_antisymm (Finset.fold_max_le _ |>.2 ⟨bot_le, fun c _ => le_mx x c.isLt⟩)
    (mx_le x fun c hc => Finset.le_fold_max _ |>.2 (.inr ⟨⟨c, hc⟩, Finset.mem_univ _, le_rfl⟩))

/-- A sum over a block's columns is a sum over their numbers. -/
theorem sum_exp_range (x : ℕ → EReal) (M : EReal) (b : ℕ) : (∑ c : Fin b, Ideal.exp (x c.val - M)) = se x M b := by
  unfold se
  rw [Finset.sum_range]

/-- A small number's word, read signed. -/
theorem toInt_ofNat {k : ℕ} (h : k < 2147483648) : (BitVec.ofNat 32 k).toInt = k := by
  rw [BitVec.toInt_eq_toNat_of_lt] <;> simp only [BitVec.toNat_ofNat] <;> omega

/-- The signed minimum of words is the minimum of the numbers. -/
theorem toInt_minsi (a b : BitVec 32) : (IntOp.minsi a b).toInt = min a.toInt b.toInt := by
  change (if a.slt b then a else b).toInt = _
  rw [BitVec.slt_eq_decide]
  by_cases h : a.toInt < b.toInt
  · rw [if_pos (decide_eq_true h), min_eq_left h.le]
  · rw [if_neg (by simpa using h), min_eq_right (not_lt.1 h)]

/-- The least of the numbers of the columns that attain the block's maximum is the first one's. -/
theorem fold_minsi (y : ℕ → EReal) (n b : ℕ) (hb : 0 < b) (hn : n + b < 2147483648) (ha : n + am y b ≤ 100000) :
    (Finset.univ : Finset (Fin b)).fold IntOp.minsi 2147483647#32
        (fun c => if y c.val = mx y b then BitVec.ofNat 32 (n + c.val) else 100000#32)
      = BitVec.ofNat 32 (n + am y b) := by
  have hF := first_am y hb
  refine BitVec.eq_of_toInt_eq ?_
  rw [← Finset.fold_hom (op' := min) (m := BitVec.toInt) toInt_minsi, toInt_ofNat (k := n + am y b) (by omega)]
  refine le_antisymm (Finset.fold_min_le _ |>.2 (.inr ⟨⟨am y b, hF.lt⟩, Finset.mem_univ _, ?_⟩))
    (Finset.le_fold_min _ |>.2 ⟨?_, fun c _ => ?_⟩)
  · rw [if_pos hF.eq, toInt_ofNat (by have := hF.lt; omega)]
  · change ((n + am y b : ℕ) : ℤ) ≤ 2147483647; omega
  · split
    · rename_i h
      have hc : am y b ≤ c.val := not_lt.1 fun hlt => hF.first _ hlt h
      rw [toInt_ofNat (by have := c.isLt; omega)]
      omega
    · change ((n + am y b : ℕ) : ℤ) ≤ 100000; omega

/-- Before the first block the maxima are −∞. -/
theorem pay8_eq (X : Fin 64 → ℕ → EReal) : k0_pay8 (F := Ideal) = mVec X 0 := by
  funext j
  idx_vars j
  pointwise [k0_pay8, mVec]
  rw [ofBits_neg_inf, mx_zero]

/-- Before the first block the sums are zero. -/
theorem pay9_eq (X : Fin 64 → ℕ → EReal) : k0_pay9 (F := Ideal) = sVec X 0 := by
  funext j
  idx_vars j
  pointwise [k0_pay9, sVec]
  rw [se_zero]

/-- Before the first block the places are zero. -/
theorem pay10_eq (X : Fin 64 → ℕ → EReal) : k0_pay10 = aVec X 0 := by
  funext j
  idx_vars j
  pointwise [k0_pay10, aVec]
  rw [am_zero]

/-- The block's own maxima. -/
theorem pay14_apply (X : Fin 64 → ℕ → EReal) (n : ℕ) (r : Fin 64) (u : Fin 1) :
    k0_pay14 (F := Ideal) (lVec X n) (ix2 r u) = mx (fun c => X r (n + c)) 4096 := by
  rw [← fold_max_range]
  pointwise [k0_pay14, lVec]
  rw [ofBits_neg_inf]

/-- The block's exponentials, less its own maxima. -/
theorem pay15_apply (X : Fin 64 → ℕ → EReal) (n : ℕ) (r : Fin 64) (u : Fin 4096) :
    k0_pay15 (F := Ideal) (lVec X n) (ix2 r u) = Ideal.exp (X r (n + u.val) - mx (fun c => X r (n + c)) 4096) := by
  pointwise [k0_pay15]
  rw [pay14_apply]
  pointwise [lVec]

/-- The maxima after a block. -/
theorem mNew_eq (X : Fin 64 → ℕ → EReal) (n : ℕ) : mNew (F := Ideal) (lVec X n) (mVec X n) = mVec X (n + 4096) := by
  funext j
  idx_vars j
  pointwise [mNew, k0_pay4, k0_pay2, mVec]
  rw [pay14_apply, mx_add]

/-- The sums after a block. -/
theorem sNew_eq (X : Fin 64 → ℕ → EReal) (n : ℕ) (hn : n < 100000) (hX : ∀ r, Row 100000 (X r)) :
    sNew (F := Ideal) (lVec X n) (mVec X n) (sVec X n) = sVec X (n + 4096) := by
  funext j
  idx_vars j
  pointwise [sNew, k0_pay3, k0_pay2, mVec, sVec]
  simp only [pay14_apply, pay15_apply]
  rw [sum_exp_range (fun c => X j0 (n + c)), (hX j0).se_step hn (by norm_num : 0 < 4096), mx_add]

/-- The columns' numbers. -/
theorem pay12_apply (i : grid0.Coords) (r : Fin 64) (u : Fin 4096) :
    k0_pay12 i (ix2 r u) = BitVec.ofNat 32 (4096 * (i 0).val + u.val) := by
  pointwise [k0_pay12]
  change BitVec.ofNat 32 (i 0).val * 4096#32 + BitVec.ofNat 32 u.val = _
  rw [show (4096#32 : BitVec 32) = BitVec.ofNat 32 4096 from rfl, ← BitVec.ofNat_mul, ← BitVec.ofNat_add, mul_comm]

/-- The places after a block. -/
theorem aNew_eq (X : Fin 64 → ℕ → EReal) (i : grid0.Coords) (hn : 4096 * (i 0).val < 100000) (hX : ∀ r, Row 100000 (X r)) :
    aNew (F := Ideal) i (lVec X (4096 * (i 0).val)) (mVec X (4096 * (i 0).val)) (aVec X (4096 * (i 0).val))
      = aVec X (4096 * (i 0).val + 4096) := by
  funext j
  idx_vars j
  pointwise [aNew, k0_pay1, k0_pay16, mVec, aVec]
  simp only [pay14_apply, pay12_apply]
  generalize hN : 4096 * (i 0).val = n at hn ⊢
  have hy := (hX j0).shift n
  obtain ⟨β, hβ⟩ := hy.real_mx (show 0 < 100000 - n by omega) (show 0 < 4096 by norm_num)
  have hF := first_am (fun c => X j0 (n + c)) (show 0 < 4096 by norm_num)
  have hlt : n + am (fun c => X j0 (n + c)) 4096 < 100000 := by
    by_contra hge
    have h1 := (hX j0).bot _ (not_lt.1 hge)
    have h2 : X j0 (n + am (fun c => X j0 (n + c)) 4096) = _ := hF.eq
    rw [h1, hβ] at h2
    exact absurd h2 (by simp)
  rw [am_step n (show 0 < 4096 by norm_num) (by rw [hβ]; simp)]
  have e : ∀ c : Fin 4096, lVec X n (ix2 j0 c) = (fun c => X j0 (n + c)) c.val := fun c => rfl
  simp only [e]
  split
  · exact fold_minsi (fun c => X j0 (n + c)) n 4096 (by norm_num) (by omega) hlt.le
  · rfl

/-- A block of logits, not masked. -/
theorem pay11_apply (h : Vec Ideal S64x256 .f32) (w2 : Vec Ideal S256x4096 .f32) (b2 : Vec Ideal S1x4096 .f32) (r : Fin 64)
    (u : Fin 4096) :
    k0_pay11 (F := Ideal) h w2 b2 (ix2 r u) = (∑ k : Fin 256, h (ix2 r k) * w2 (ix2 k u)) + b2 (ix2 0 u) := by
  pointwise [k0_pay11]

/-- The signed comparison of a small number's word with the vocabulary's size. -/
theorem slt_ofNat {k : ℕ} (h : k < 2147483648) : IntOp.cmpi .slt (BitVec.ofNat 32 k) 100000#32 = BitVec.ofBool (decide (k < 100000)) := by
  change BitVec.ofBool ((BitVec.ofNat 32 k).slt 100000#32) = _
  rw [BitVec.slt_eq_decide, toInt_ofNat h, show (100000#32).toInt = 100000 by decide]
  congr 2
  exact propext (by omega)

/-- A block of logits, masked past the vocabulary. -/
theorem pay13_apply (i : grid0.Coords) (hi : (i 0).val < 25) (h : Vec Ideal S64x256 .f32) (w2 : Vec Ideal S256x4096 .f32)
    (b2 : Vec Ideal S1x4096 .f32) (r : Fin 64) (u : Fin 4096) :
    k0_pay13 (F := Ideal) i h w2 b2 (ix2 r u)
      = if 4096 * (i 0).val + u.val < 100000 then k0_pay11 (F := Ideal) h w2 b2 (ix2 r u) else ⊥ := by
  pointwise [k0_pay13]
  rw [pay12_apply, slt_ofNat (by have := u.isLt; omega), ofBits_neg_inf]
  by_cases hk : 4096 * (i 0).val + u.val < 100000
  · rw [if_pos hk, decide_eq_true hk]; rfl
  · rw [if_neg hk, decide_eq_false hk]; rfl

/-- The hidden layer. -/
theorem pay7_apply (x : Vec Ideal S64x1088 .f32) (w1 : Vec Ideal S1088x256 .f32) (b1 : Vec Ideal S1x256 .f32) (r : Fin 64)
    (u : Fin 256) :
    k0_pay7 (F := Ideal) x w1 b1 (ix2 r u) = max ((∑ k : Fin 1088, x (ix2 r k) * w1 (ix2 k u)) + b1 (ix2 0 u)) 0 := by
  pointwise [k0_pay7]

/-- The logarithm of the sum of exponentials, from the maximum and the sum. -/
theorem pay5_eq (X : Fin 64 → ℕ → EReal) (n : ℕ) :
    k0_pay5 (F := Ideal) (mVec X n) (sVec X n)
      = fun j => mx (X (j 0)) n + Ideal.log (se (X (j 0)) (mx (X (j 0)) n) n) := by
  funext j
  idx_vars j
  pointwise [k0_pay5, mVec, sVec]

/-- The probabilities' block. -/
theorem k1_pay1_apply (l : Vec Ideal S64x4096 .f32) (z : Vec Ideal S64x1 .f32) (r : Fin 64) (u : Fin 4096) :
    k1_pay1 (F := Ideal) l z (ix2 r u) = Ideal.exp (l (ix2 r u) - z (ix2 r 0)) := by
  pointwise [k1_pay1]

end Cert.KernelIdeal.Value

end
-- ==== Proof.BlockIdeal.lean ====
module

public import proofs.«01_k».proof.Proof.PayIdeal
public import proofs.«01_k».proof.Proof.DatKernelIdeal
public import Idealize.ShloMosaic.Lib.Pipeline.Value

/-! # The blocks the grid points read and write, as parts of the arrays -/

@[expose] public section

set_option maxRecDepth 16384

noncomputable section

namespace Cert.KernelIdeal.Value

open Cert.KernelIdeal Cert.KernelIdeal.Gen Cert.KernelIdeal.Body Cert.KernelIdeal.Regions
open Idealize.ShloMosaic Idealize.ShloMosaic.TcCoe Cert.Online Idealize.SL.Sem
open Idealize.ShloMosaic.Pipeline (Window)

/-- Where a block of the second layer's weights lies, and how much of it is inside the array. -/
theorem at0_3 : ∀ t : Fin cfg0.N, win0_3.index t 0 * win0_3.size 0 = 0 ∧ win0_3.index t 1 * win0_3.size 1 = 4096 * t.val
    ∧ win0_3.xsize (grid0.coords t) 0 = 256 ∧ win0_3.xsize (grid0.coords t) 1 = min 4096 (100000 - 4096 * t.val) := by
  decide +kernel
/-- Where a block of the second layer's bias lies. -/
theorem at0_4 : ∀ t : Fin cfg0.N, win0_4.index t 0 * win0_4.size 0 = 0 ∧ win0_4.index t 1 * win0_4.size 1 = 4096 * t.val
    ∧ win0_4.xsize (grid0.coords t) 0 = 1 ∧ win0_4.xsize (grid0.coords t) 1 = min 4096 (100000 - 4096 * t.val) := by
  decide +kernel
/-- Where a block of the logits lies. -/
theorem at0_5 : ∀ t : Fin cfg0.N, win0_5.index t 0 * win0_5.size 0 = 0 ∧ win0_5.index t 1 * win0_5.size 1 = 4096 * t.val
    ∧ win0_5.xsize (grid0.coords t) 0 = 64 ∧ win0_5.xsize (grid0.coords t) 1 = min 4096 (100000 - 4096 * t.val) := by
  decide +kernel
/-- Where a block of the logits lies, read again. -/
theorem at1_0 : ∀ t : Fin cfg1.N, win1_0.index t 0 * win1_0.size 0 = 0 ∧ win1_0.index t 1 * win1_0.size 1 = 4096 * t.val
    ∧ win1_0.xsize (grid1.coords t) 0 = 64 ∧ win1_0.xsize (grid1.coords t) 1 = min 4096 (100000 - 4096 * t.val) := by
  decide +kernel
/-- Where a block of the probabilities lies. -/
theorem at1_2 : ∀ t : Fin cfg1.N, win1_2.index t 0 * win1_2.size 0 = 0 ∧ win1_2.index t 1 * win1_2.size 1 = 4096 * t.val
    ∧ win1_2.xsize (grid1.coords t) 0 = 64 ∧ win1_2.xsize (grid1.coords t) 1 = min 4096 (100000 - 4096 * t.val) := by
  decide +kernel

/-- A grid point's coordinate is its number. -/
theorem coords0 : ∀ t : Fin cfg0.N, (grid0.coords t 0).val = t.val := by decide +kernel
/-- The first grid point. -/
theorem first0 : ∀ t : Fin cfg0.N, isFirst (grid0.coords t) ↔ t.val = 0 := by decide +kernel
/-- The last grid point. -/
theorem last0 : ∀ t : Fin cfg0.N, isLast (grid0.coords t) ↔ t.val = 24 := by decide +kernel

variable (V : Valuation τ sig (Elt Ideal))

/-- An entry of a block of the second layer's weights. -/
theorem blk0_3_apply (t : Fin cfg0.N) (d : Vec Ideal S256x4096 .f32) (k : Fin 256) (u : Fin 4096)
    (h : 4096 * t.val + u.val < 100000) :
    blk0_3 V t d (ix2 k u) = (V main_arg6 : Vec Ideal S256x100000 .f32) (ix2 k ⟨4096 * t.val + u.val, h⟩) := by
  obtain ⟨e0, e1, x0, x1⟩ := at0_3 t
  unfold blk0_3 Window.fill
  rw [dif_pos ((win0_3.moved_iff (grid0.coords t) (ix2 k u)).mpr fun a => by
    match a with
    | ⟨0, _⟩ => change k.val < win0_3.xsize (grid0.coords t) 0; rw [x0]; exact k.isLt
    | ⟨1, _⟩ => change u.val < win0_3.xsize (grid0.coords t) 1; rw [x1]; have := u.isLt; omega)]
  change (V main_arg6 : Vec Ideal S256x100000 .f32) ((win0_3.rect t).emb _) = _
  congr 1
  funext a
  apply Fin.ext
  refine (win0_3.rect_emb_val t _ a).trans ?_
  match a with
  | ⟨0, _⟩ => change win0_3.index t 0 * win0_3.size 0 + k.val = k.val; rw [e0, Nat.zero_add]
  | ⟨1, _⟩ => change win0_3.index t 1 * win0_3.size 1 + u.val = 4096 * t.val + u.val; rw [e1]

/-- An entry of a block of the second layer's bias. -/
theorem blk0_4_apply (t : Fin cfg0.N) (d : Vec Ideal S1x4096 .f32) (k : Fin 1) (u : Fin 4096)
    (h : 4096 * t.val + u.val < 100000) :
    blk0_4 V t d (ix2 k u) = (V main_v13 : Vec Ideal S1x100000 .f32) (ix2 k ⟨4096 * t.val + u.val, h⟩) := by
  obtain ⟨e0, e1, x0, x1⟩ := at0_4 t
  unfold blk0_4 Window.fill
  rw [dif_pos ((win0_4.moved_iff (grid0.coords t) (ix2 k u)).mpr fun a => by
    match a with
    | ⟨0, _⟩ => change k.val < win0_4.xsize (grid0.coords t) 0; rw [x0]; exact k.isLt
    | ⟨1, _⟩ => change u.val < win0_4.xsize (grid0.coords t) 1; rw [x1]; have := u.isLt; omega)]
  change (V main_v13 : Vec Ideal S1x100000 .f32) ((win0_4.rect t).emb _) = _
  congr 1
  funext a
  apply Fin.ext
  refine (win0_4.rect_emb_val t _ a).trans ?_
  match a with
  | ⟨0, _⟩ => change win0_4.index t 0 * win0_4.size 0 + k.val = k.val; rw [e0, Nat.zero_add]
  | ⟨1, _⟩ => change win0_4.index t 1 * win0_4.size 1 + u.val = 4096 * t.val + u.val; rw [e1]

/-- An entry of a block of the logits, read again. -/
theorem blk1_0_apply (t : Fin cfg1.N) (d : Vec Ideal S64x4096 .f32) (k : Fin 64) (u : Fin 4096)
    (h : 4096 * t.val + u.val < 100000) :
    blk1_0 V t d (ix2 k u) = (V main_v14_0 : Vec Ideal S64x100000 .f32) (ix2 k ⟨4096 * t.val + u.val, h⟩) := by
  obtain ⟨e0, e1, x0, x1⟩ := at1_0 t
  unfold blk1_0 Window.fill
  rw [dif_pos ((win1_0.moved_iff (grid1.coords t) (ix2 k u)).mpr fun a => by
    match a with
    | ⟨0, _⟩ => change k.val < win1_0.xsize (grid1.coords t) 0; rw [x0]; exact k.isLt
    | ⟨1, _⟩ => change u.val < win1_0.xsize (grid1.coords t) 1; rw [x1]; have := u.isLt; omega)]
  change (V main_v14_0 : Vec Ideal S64x100000 .f32) ((win1_0.rect t).emb _) = _
  congr 1
  funext a
  apply Fin.ext
  refine (win1_0.rect_emb_val t _ a).trans ?_
  match a with
  | ⟨0, _⟩ => change win1_0.index t 0 * win1_0.size 0 + k.val = k.val; rw [e0, Nat.zero_add]
  | ⟨1, _⟩ => change win1_0.index t 1 * win1_0.size 1 + u.val = 4096 * t.val + u.val; rw [e1]

/-! ## The windows that hold a whole array -/

/-- The windows that stay in place. -/
theorem z0_0 : ∀ (t : Fin cfg0.N) (a : Fin 2), win0_0.index t a = 0 := by decide +kernel
theorem z0_1 : ∀ (t : Fin cfg0.N) (a : Fin 2), win0_1.index t a = 0 := by decide +kernel
theorem z0_2 : ∀ (t : Fin cfg0.N) (a : Fin 2), win0_2.index t a = 0 := by decide +kernel
theorem z0_6 : ∀ (t : Fin cfg0.N) (a : Fin 2), win0_6.index t a = 0 := by decide +kernel
theorem z0_7 : ∀ (t : Fin cfg0.N) (a : Fin 2), win0_7.index t a = 0 := by decide +kernel
theorem z1_1 : ∀ (t : Fin cfg1.N) (a : Fin 2), win1_1.index t a = 0 := by decide +kernel

/-- The features' block is the array. -/
theorem blk0_0_eq (t : Fin cfg0.N) : blk0_0 V t = V main_v2 := by
  funext j
  change (V main_v2 : Vec Ideal S64x1088 .f32) ((win0_0.rect t).emb j) = V main_v2 j
  congr 1
  funext a
  exact Fin.ext (win0_0.rect_emb_val_of_index_zero t a (z0_0 t a) j)
/-- The first layer's weights' block is the array. -/
theorem blk0_1_eq (t : Fin cfg0.N) : blk0_1 V t = V main_arg4 := by
  funext j
  change (V main_arg4 : Vec Ideal S1088x256 .f32) ((win0_1.rect t).emb j) = V main_arg4 j
  congr 1
  funext a
  exact Fin.ext (win0_1.rect_emb_val_of_index_zero t a (z0_1 t a) j)
/-- The first layer's bias's block is the array. -/
theorem blk0_2_eq (t : Fin cfg0.N) : blk0_2 V t = V main_v12 := by
  funext j
  change (V main_v12 : Vec Ideal S1x256 .f32) ((win0_2.rect t).emb j) = V main_v12 j
  congr 1
  funext a
  exact Fin.ext (win0_2.rect_emb_val_of_index_zero t a (z0_2 t a) j)
/-- The log-sum-exps' block is the array. -/
theorem blk1_1_eq (t : Fin cfg1.N) : blk1_1 V t = V main_v14_1 := by
  funext j
  change (V main_v14_1 : Vec Ideal S64x1 .f32) ((win1_1.rect t).emb j) = V main_v14_1 j
  congr 1
  funext a
  exact Fin.ext (win1_1.rect_emb_val_of_index_zero t a (z1_1 t a) j)

/-! ## The logits -/

/-- The hidden layer. -/
def hV : Vec Ideal S64x256 .f32 := k0_pay7 (F := Ideal) (V main_v2) (V main_arg4) (V main_v12)
/-- A logit. -/
def Lg (r : Fin 64) (c : Fin 100000) : EReal :=
  (∑ k : Fin 256, hV V (ix2 r k) * (V main_arg6 : Vec Ideal S256x100000 .f32) (ix2 k c)) + (V main_v13 : Vec Ideal S1x100000 .f32) (ix2 0 c)
/-- A row of logits, −∞ past the vocabulary. -/
def XV (r : Fin 64) (n : ℕ) : EReal := if h : n < 100000 then Lg V r ⟨n, h⟩ else ⊥

/-- The block of logits a grid point computes, whatever the staging buffers hold past the arrays. -/
theorem lgt_eq (t : Fin cfg0.N) (d : Vec Ideal S256x4096 .f32) (d' : Vec Ideal S1x4096 .f32) :
    lgt (F := Ideal) (grid0.coords t) (hV V) (blk0_3 V t d) (blk0_4 V t d') = lVec (XV V) (4096 * t.val) := by
  have ht : t.val < 25 := t.isLt
  have e11 : ∀ (r : Fin 64) (u : Fin 4096), 4096 * t.val + u.val < 100000 →
      k0_pay11 (F := Ideal) (hV V) (blk0_3 V t d) (blk0_4 V t d') (ix2 r u) = XV V r (4096 * t.val + u.val) := fun r u h => by
    rw [pay11_apply, XV, dif_pos h, Lg]
    simp only [blk0_3_apply V t d _ u h, blk0_4_apply V t d' _ u h]
  funext j
  idx_vars j
  change lgt (F := Ideal) (grid0.coords t) (hV V) (blk0_3 V t d) (blk0_4 V t d') (ix2 j0 j1) = XV V j0 (4096 * t.val + j1.val)
  unfold lgt
  split
  · rw [pay13_apply _ (by rw [coords0]; exact ht), coords0]
    split
    · rename_i h
      exact e11 j0 j1 h
    · rename_i h
      rw [XV, dif_neg h]
  · rename_i h
    rw [last0] at h
    exact e11 j0 j1 (by have := j1.isLt; omega)

end Cert.KernelIdeal.Value

end
-- ==== Proof.ArrayIdeal.lean ====
module

public import proofs.«01_k».proof.Proof.BlockIdeal
public import proofs.«01_k».proof.Proof.ForgetKernelIdeal

/-! # What the arrays hold after the two regions -/

@[expose] public section

set_option maxRecDepth 16384

noncomputable section

namespace Cert.KernelIdeal.Value

open Cert.KernelIdeal Cert.KernelIdeal.Gen Cert.KernelIdeal.Body Cert.KernelIdeal.Regions
open Idealize.ShloMosaic Idealize.ShloMosaic.TcCoe Cert.Online
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {U : Type} [URA U]

variable (V : Valuation τ sig (Elt Ideal))

/-- The logits. -/
def G5 : Vec Ideal S64x100000 .f32 := fun i => Lg V (i 0) (i 1)
/-- The logarithms of the rows' sums of exponentials. -/
def G6 : Vec Ideal S64x1 .f32 := k0_pay5 (F := Ideal) (mVec (XV V) 102400) (sVec (XV V) 102400)
/-- The rows' first maxima. -/
def G7 : Vec Ideal S64x1 .f32 := k0_pay6 (F := Ideal) (aVec (XV V) 102400)
/-- The exponential of an entry of `l` less the row's entry of the column `z`. -/
def expSub (l : S64x100000.Idx → EReal) (z : S64x1.Idx → EReal) : S64x100000.Idx → EReal :=
  fun i => Ideal.exp (l (ix2 (i 0) (i 1)) - z (ix2 (i 0) 0))
/-- The exponentials of the logits less the column beside them. -/
def G2 : Vec Ideal S64x100000 .f32 := expSub (V main_v14_0) (V main_v14_1)

/-- The block of the probabilities at a grid point; past the array it does not matter. -/
def pVec (t : Fin cfg1.N) : Vec Ideal S64x4096 .f32 :=
  k1_pay1 (F := Ideal) (blk1_0 V t (fun _ => Scalar.ofBits (F := Ideal) .f32 0#32)) (blk1_1 V t)

/-- Which entries of the logits a grid point's block holds. -/
theorem mem0_5 (t : Fin cfg0.N) (i : S64x100000.Idx) :
    i ∈ ((cfg0.win 5).blk t).view.set ↔ 4096 * t.val ≤ (i 1).val ∧ (i 1).val < 4096 * t.val + min 4096 (100000 - 4096 * t.val) := by
  show i ∈ ((View.whole main_v14_0).slice (win0_5.rect t)).set ↔ _
  rw [View.set_slice_whole, Rect.mem_set_unit]
  have h0 : (i 0).val < 64 := (i 0).isLt
  obtain ⟨e0, e1, x0, x1⟩ := at0_5 t
  refine ⟨fun h => ?_, fun h a => ?_⟩
  · have : win0_5.index t 1 * win0_5.size 1 ≤ (i 1).val ∧ (i 1).val < win0_5.index t 1 * win0_5.size 1 + win0_5.xsize (grid0.coords t) 1 := h 1
    rwa [e1, x1] at this
  · match a with
    | ⟨0, _⟩ => show win0_5.index t 0 * win0_5.size 0 ≤ (i 0).val ∧ (i 0).val < win0_5.index t 0 * win0_5.size 0 + win0_5.xsize (grid0.coords t) 0
                rw [e0, x0]; omega
    | ⟨1, _⟩ => show win0_5.index t 1 * win0_5.size 1 ≤ (i 1).val ∧ (i 1).val < win0_5.index t 1 * win0_5.size 1 + win0_5.xsize (grid0.coords t) 1
                rw [e1, x1]; exact h
/-- Which entries of the probabilities a grid point's block holds. -/
theorem mem1_2 (t : Fin cfg1.N) (i : S64x100000.Idx) :
    i ∈ ((cfg1.win 2).blk t).view.set ↔ 4096 * t.val ≤ (i 1).val ∧ (i 1).val < 4096 * t.val + min 4096 (100000 - 4096 * t.val) := by
  show i ∈ ((View.whole main_v15).slice (win1_2.rect t)).set ↔ _
  rw [View.set_slice_whole, Rect.mem_set_unit]
  have h0 : (i 0).val < 64 := (i 0).isLt
  obtain ⟨e0, e1, x0, x1⟩ := at1_2 t
  refine ⟨fun h => ?_, fun h a => ?_⟩
  · have : win1_2.index t 1 * win1_2.size 1 ≤ (i 1).val ∧ (i 1).val < win1_2.index t 1 * win1_2.size 1 + win1_2.xsize (grid1.coords t) 1 := h 1
    rwa [e1, x1] at this
  · match a with
    | ⟨0, _⟩ => show win1_2.index t 0 * win1_2.size 0 ≤ (i 0).val ∧ (i 0).val < win1_2.index t 0 * win1_2.size 0 + win1_2.xsize (grid1.coords t) 0
                rw [e0, x0]; omega
    | ⟨1, _⟩ => show win1_2.index t 1 * win1_2.size 1 ≤ (i 1).val ∧ (i 1).val < win1_2.index t 1 * win1_2.size 1 + win1_2.xsize (grid1.coords t) 1
                rw [e1, x1]; exact h

/-- Each grid has 25 points. -/
theorem N0 : cfg0.N = 25 := by decide
theorem N1 : cfg1.N = 25 := by decide

/-- Every logit lies in a block that is written back. -/
theorem cover0_5 (i : S64x100000.Idx) : ∃ t : Fin cfg0.N, (cfg0.win 5).flush t = true ∧ i ∈ ((cfg0.win 5).blk t).view.set := by
  have h1 : (i 1).val < 100000 := (i 1).isLt
  refine ⟨⟨(i 1).val / 4096, by rw [N0]; omega⟩, flush0_5 _, ?_⟩
  rw [mem0_5]
  dsimp only
  omega
/-- Every probability lies in a block that is written back. -/
theorem cover1_2 (i : S64x100000.Idx) : ∃ t : Fin cfg1.N, (cfg1.win 2).flush t = true ∧ i ∈ ((cfg1.win 2).blk t).view.set := by
  have h1 : (i 1).val < 100000 := (i 1).isLt
  refine ⟨⟨(i 1).val / 4096, by rw [N1]; omega⟩, flush1_2 _, ?_⟩
  rw [mem1_2]
  dsimp only
  omega

/-- The blocks of the two columns are the whole columns. -/
theorem emb0_6 (t : Fin cfg0.N) (j : S64x1.Idx) : ((cfg0.win 6).blk t).view.emb j = j :=
  funext fun a => Fin.ext (win0_6.rect_emb_val_of_index_zero t a (z0_6 t a) j)
theorem emb0_7 (t : Fin cfg0.N) (j : S64x1.Idx) : ((cfg0.win 7).blk t).view.emb j = j :=
  funext fun a => Fin.ext (win0_7.rect_emb_val_of_index_zero t a (z0_7 t a) j)

/-- Every entry of the two columns is written back. -/
theorem cover0_6 (i : S64x1.Idx) : ∃ t : Fin cfg0.N, (cfg0.win 6).flush t = true ∧ i ∈ ((cfg0.win 6).blk t).view.set :=
  ⟨⟨24, by decide⟩, (flush0_6 _).mpr rfl, by
    have h := ((cfg0.win 6).blk (⟨24, by decide⟩ : Fin cfg0.N)).view.emb_mem_set i; rwa [emb0_6] at h⟩
theorem cover0_7 (i : S64x1.Idx) : ∃ t : Fin cfg0.N, (cfg0.win 7).flush t = true ∧ i ∈ ((cfg0.win 7).blk t).view.set :=
  ⟨⟨24, by decide⟩, (flush0_7 _).mpr rfl, by
    have h := ((cfg0.win 7).blk (⟨24, by decide⟩ : Fin cfg0.N)).view.emb_mem_set i; rwa [emb0_7] at h⟩

section
variable (c : Dev nD) (Φ : Fin (cfg0.N + 1) → sProp (MT nD τ sig Unit (Elt Ideal) ℕ U ℕ))

/-- The first region's proof data: the logits' blocks, and at the last point the two columns. -/
def xdat0 : Dat τ (Elt Ideal) Unit ℕ U ℕ cfg0 c :=
  dat0 V (fun t => lVec (XV V) (4096 * t.val)) (fun _ => G6 V) (fun _ => G7 V) c Φ

/-- The logits' array ends holding the logits. -/
theorem arr0_5 : (xdat0 V c Φ).arrAt 5 cfg0.N = G5 V := by
  refine (xdat0 V c Φ).arrAt_eq_of_cover 5 (G5 V) (fun t _ => ?_) cover0_5
  obtain ⟨e0, e1, x0, x1⟩ := at0_5 t
  funext j
  have h0 : (j 0).val < win0_5.xsize (grid0.coords t) 0 := (j 0).isLt
  have h1 : (j 1).val < win0_5.xsize (grid0.coords t) 1 := (j 1).isLt
  rw [x0] at h0
  rw [x1] at h1
  change XV V (⟨(j 0).val, h0⟩ : Fin 64) (4096 * t.val + (j 1).val) = G5 V ((win0_5.rect t).emb j)
  have h : 4096 * t.val + (j 1).val < 100000 := by omega
  rw [XV, dif_pos h]
  change _ = Lg V ((win0_5.rect t).emb j 0) ((win0_5.rect t).emb j 1)
  congr 1
  · exact Fin.ext (((win0_5.rect_emb_val t j 0).trans (by change win0_5.index t 0 * win0_5.size 0 + _ = _; rw [e0, Nat.zero_add])).symm)
  · exact Fin.ext (((win0_5.rect_emb_val t j 1).trans (by change win0_5.index t 1 * win0_5.size 1 + _ = _; rw [e1])).symm)

/-- After the first grid the log-sum-exps are in their array. -/
theorem arr0_6 : (xdat0 V c Φ).arrAt 6 cfg0.N = G6 V :=
  (xdat0 V c Φ).arrAt_eq_of_cover 6 (G6 V) (fun t _ => by
    funext j
    change G6 V j = G6 V (((cfg0.win 6).blk t).view.emb j)
    rw [emb0_6]) cover0_6
/-- After the first grid the actions are in their array. -/
theorem arr0_7 : (xdat0 V c Φ).arrAt 7 cfg0.N = G7 V :=
  (xdat0 V c Φ).arrAt_eq_of_cover 7 (G7 V) (fun t _ => by
    funext j
    change G7 V j = G7 V (((cfg0.win 7).blk t).view.emb j)
    rw [emb0_7]) cover0_7
end

section
variable (c : Dev nD) (Φ : Fin (cfg1.N + 1) → sProp (MT nD τ sig Unit (Elt Ideal) ℕ U ℕ))

/-- The second region's proof data: the probabilities' blocks. -/
def xdat1 : Dat τ (Elt Ideal) Unit ℕ U ℕ cfg1 c := dat1 V (pVec V) c Φ

/-- An entry of the probabilities' block, inside the array. -/
theorem pVec_apply (t : Fin cfg1.N) (d : Vec Ideal S64x4096 .f32) (r : Fin 64) (u : Fin 4096) (h : 4096 * t.val + u.val < 100000) :
    k1_pay1 (F := Ideal) (blk1_0 V t d) (blk1_1 V t) (ix2 r u) = G2 V (ix2 r ⟨4096 * t.val + u.val, h⟩) := by
  rw [k1_pay1_apply, blk1_0_apply V t d r u h, blk1_1_eq]
  rfl

/-- The probabilities' array ends holding the exponentials of the logits less the column beside them. -/
theorem arr1_2 : (xdat1 V c Φ).arrAt 2 cfg1.N = G2 V := by
  refine (xdat1 V c Φ).arrAt_eq_of_cover 2 (G2 V) (fun t _ => ?_) cover1_2
  obtain ⟨e0, e1, x0, x1⟩ := at1_2 t
  funext j
  have h0 : (j 0).val < win1_2.xsize (grid1.coords t) 0 := (j 0).isLt
  have h1 : (j 1).val < win1_2.xsize (grid1.coords t) 1 := (j 1).isLt
  rw [x0] at h0
  rw [x1] at h1
  have h : 4096 * t.val + (j 1).val < 100000 := by omega
  have h4 : (j 1).val < 4096 := by omega
  have e : win1_2.xinj (grid1.coords t) j = ix2 (⟨(j 0).val, h0⟩ : Fin 64) (⟨(j 1).val, h4⟩ : Fin 4096) := by
    funext a
    match a with
    | ⟨0, _⟩ => rfl
    | ⟨1, _⟩ => rfl
  change pVec V t (win1_2.xinj (grid1.coords t) j) = G2 V ((win1_2.rect t).emb j)
  rw [e, pVec, pVec_apply V t _ ⟨(j 0).val, h0⟩ ⟨(j 1).val, h4⟩ h]
  congr 1
  funext a
  apply Fin.ext
  refine Eq.symm ((win1_2.rect_emb_val t j a).trans ?_)
  match a with
  | ⟨0, _⟩ => change win1_2.index t 0 * win1_2.size 0 + (j 0).val = (j 0).val; rw [e0, Nat.zero_add]
  | ⟨1, _⟩ => change win1_2.index t 1 * win1_2.size 1 + (j 1).val = 4096 * t.val + (j 1).val; rw [e1]

/-- The block of the probabilities inside the array does not depend on what lies past it. -/
theorem cut1_2 (t : Fin cfg1.N) (d : Vec Ideal S64x4096 .f32) :
    win1_2.cut (grid1.coords t) (k1_pay1 (F := Ideal) (blk1_0 V t d) (blk1_1 V t)) = win1_2.cut (grid1.coords t) (pVec V t) := by
  obtain ⟨e0, e1, x0, x1⟩ := at1_2 t
  funext j
  have h0 : (j 0).val < win1_2.xsize (grid1.coords t) 0 := (j 0).isLt
  have h1 : (j 1).val < win1_2.xsize (grid1.coords t) 1 := (j 1).isLt
  rw [x0] at h0
  rw [x1] at h1
  have h : 4096 * t.val + (j 1).val < 100000 := by omega
  have h4 : (j 1).val < 4096 := by omega
  have e : win1_2.xinj (grid1.coords t) j = ix2 (⟨(j 0).val, h0⟩ : Fin 64) (⟨(j 1).val, h4⟩ : Fin 4096) := by
    funext a
    match a with
    | ⟨0, _⟩ => rfl
    | ⟨1, _⟩ => rfl
  change k1_pay1 (F := Ideal) (blk1_0 V t d) (blk1_1 V t) (win1_2.xinj (grid1.coords t) j) = pVec V t (win1_2.xinj (grid1.coords t) j)
  rw [e, pVec, pVec_apply V t _ ⟨(j 0).val, h0⟩ ⟨(j 1).val, h4⟩ h, pVec_apply V t _ ⟨(j 0).val, h0⟩ ⟨(j 1).val, h4⟩ h]
end

end Cert.KernelIdeal.Value

end
-- ==== Proof.BodyIdeal.lean ====
module

public import proofs.«01_k».proof.Proof.ArrayIdeal

/-! # The two bodies at a grid point, every output window at its block

The first region carries, from point to point, the hidden layer and per row the running maximum, the running sum and
the place of the running maximum; before point `t` they are those of the first `4096 t` columns. -/

@[expose] public section

set_option maxRecDepth 16384

noncomputable section

namespace Cert.KernelIdeal.Value

open Cert.KernelIdeal Cert.KernelIdeal.Gen Cert.KernelIdeal.Body Cert.KernelIdeal.Regions Cert.Whole
open Idealize.ShloMosaic Idealize.ShloMosaic.TcCoe Cert.Online
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {U : Type} [URA U]

local notation "𝕄" => MT nD τ sig Unit (Elt Ideal) ℕ U ℕ

/-- The scratch buffers before point `n`: at the first point nothing is known of them. -/
def Carried (V : Valuation τ sig (Elt Ideal)) (n : ℕ) (h : Vec Ideal S64x256 .f32) (mm ss : Vec Ideal S64x1 .f32)
    (aa : Vec Ideal S64x1 .i32) : Prop :=
  n ≠ 0 → h = hV V ∧ mm = mVec (XV V) (4096 * n) ∧ ss = sVec (XV V) (4096 * n) ∧ aa = aVec (XV V) (4096 * n)

/-- The scoped buffers the first region does not use, at something. -/
def others (c : Dev nD) : sProp 𝕄 :=
  iprop((∃ f : Buf (Elt Ideal) ((c : Thread nD τ).loc cc1_stg0_0), ((c : Thread nD τ).loc cc1_stg0_0) ↦{fullShare} f)
    ∗ (∃ f : Buf (Elt Ideal) ((c : Thread nD τ).loc cc1_stg0_1), ((c : Thread nD τ).loc cc1_stg0_1) ↦{fullShare} f)
    ∗ (∃ f : Buf (Elt Ideal) ((c : Thread nD τ).loc cc1_stg1_0), ((c : Thread nD τ).loc cc1_stg1_0) ↦{fullShare} f)
    ∗ (∃ f : Buf (Elt Ideal) ((c : Thread nD τ).loc cc1_stg2_0), ((c : Thread nD τ).loc cc1_stg2_0) ↦{fullShare} f)
    ∗ (∃ f : Buf (Elt Ideal) ((c : Thread nD τ).loc cc1_stg2_1), ((c : Thread nD τ).loc cc1_stg2_1) ↦{fullShare} f))

/-- The first region's invariant before point `n`. -/
def ΦX (V : Valuation τ sig (Elt Ideal)) (c : Dev nD) (n : Fin (cfg0.N + 1)) : sProp 𝕄 :=
  iprop(∃ h mm ss aa, ⌜Carried V n.val h mm ss aa⌝ ∗ owns (c : Thread nD τ) (Memref.whole cc0_scratch0) fullShare h
    ∗ owns (c : Thread nD τ) (Memref.whole cc0_scratch1) fullShare mm ∗ owns (c : Thread nD τ) (Memref.whole cc0_scratch2) fullShare ss
    ∗ owns (c : Thread nD τ) (Memref.whole cc0_scratch3) fullShare aa ∗ others c ∗ along c)

/-- Before the first point the invariant asks nothing. -/
theorem ΦX_start (V : Valuation τ sig (Elt Ideal)) (c : Dev nD) : (Φ0 c : sProp 𝕄) ⊢ ΦX V c 0 := by
  unfold Φ0 ΦX
  rw [scopedRest0_eq]
  iintro ⟨⟨⟨%f0, S0⟩, ⟨%f1, S1⟩, ⟨%f2, S2⟩, ⟨%f3, S3⟩, HR⟩, HP⟩
  ihave S0 := (owns_intro (c : Thread nD τ) cc0_scratch0 fullShare f0) $$ S0
  ihave S1 := (owns_intro (c : Thread nD τ) cc0_scratch1 fullShare f1) $$ S1
  ihave S2 := (owns_intro (c : Thread nD τ) cc0_scratch2 fullShare f2) $$ S2
  ihave S3 := (owns_intro (c : Thread nD τ) cc0_scratch3 fullShare f3) $$ S3
  iexists f0; iexists f1; iexists f2; iexists f3
  isplitr; · ipureintro; exact fun h => absurd rfl h
  isplitl [S0]; · iexact S0
  isplitl [S1]; · iexact S1
  isplitl [S2]; · iexact S2
  isplitl [S3]; · iexact S3
  isplitl [HR]; · unfold others; iexact HR
  iexact HP

/-- After the last point it is forgotten. -/
theorem ΦX_end (V : Valuation τ sig (Elt Ideal)) (c : Dev nD) (n) : ΦX V c n ⊢ (Φ0 c : sProp 𝕄) := by
  unfold Φ0 ΦX
  rw [scopedRest0_eq]
  iintro ⟨%h, %mm, %ss, %aa, -, S0, S1, S2, S3, HR, HP⟩
  ihave S0 := (owns_elim (c : Thread nD τ) cc0_scratch0 fullShare _) $$ S0
  ihave S1 := (owns_elim (c : Thread nD τ) cc0_scratch1 fullShare _) $$ S1
  ihave S2 := (owns_elim (c : Thread nD τ) cc0_scratch2 fullShare _) $$ S2
  ihave S3 := (owns_elim (c : Thread nD τ) cc0_scratch3 fullShare _) $$ S3
  isplitl [S0 S1 S2 S3 HR]
  · isplitl [S0]; · iexact S0
    isplitl [S1]; · iexact S1
    isplitl [S2]; · iexact S2
    isplitl [S3]; · iexact S3
    unfold others; iexact HR
  iexact HP

section
variable {V : Valuation τ sig (Elt Ideal)} {t : Fin cfg0.N} {h : Vec Ideal S64x256 .f32} {mm ss : Vec Ideal S64x1 .f32}
  {aa : Vec Ideal S64x1 .i32} (hc : Carried V t.val h mm ss aa)
include hc

/-- The hidden layer a grid point uses. -/
theorem Carried.hid_eq : hid (F := Ideal) (grid0.coords t) (blk0_0 V t) (blk0_1 V t) (blk0_2 V t) h = hV V := by
  unfold hid
  split
  · rw [blk0_0_eq, blk0_1_eq, blk0_2_eq]; rfl
  · rename_i hf; exact (hc fun e => hf ((first0 t).2 e)).1
/-- The running maxima a grid point starts from. -/
theorem Carried.m_eq : mOld (F := Ideal) (grid0.coords t) mm = mVec (XV V) (4096 * t.val) := by
  unfold mOld
  split
  · rename_i hf; rw [(first0 t).1 hf, Nat.mul_zero]; exact pay8_eq _
  · rename_i hf; exact (hc fun e => hf ((first0 t).2 e)).2.1
/-- The running sums a grid point starts from. -/
theorem Carried.s_eq : sOld (F := Ideal) (grid0.coords t) ss = sVec (XV V) (4096 * t.val) := by
  unfold sOld
  split
  · rename_i hf; rw [(first0 t).1 hf, Nat.mul_zero]; exact pay9_eq _
  · rename_i hf; exact (hc fun e => hf ((first0 t).2 e)).2.2.1
/-- The running places a grid point starts from. -/
theorem Carried.a_eq : aOld (F := Ideal) (grid0.coords t) aa = aVec (XV V) (4096 * t.val) := by
  unfold aOld
  split
  · rename_i hf; rw [(first0 t).1 hf, Nat.mul_zero]; exact pay10_eq _
  · rename_i hf; exact (hc fun e => hf ((first0 t).2 e)).2.2.2
end

section
variable {V : Valuation τ sig (Elt Ideal)} (hX : ∀ r, Row 100000 (XV V r)) (t : Fin cfg0.N)

/-- The running maxima a grid point leaves. -/
theorem m_next : mNew (F := Ideal) (lVec (XV V) (4096 * t.val)) (mVec (XV V) (4096 * t.val)) = mVec (XV V) (4096 * (t.val + 1)) := by
  rw [mNew_eq, Nat.mul_succ]
include hX in
/-- The running sums a grid point leaves. -/
theorem s_next : sNew (F := Ideal) (lVec (XV V) (4096 * t.val)) (mVec (XV V) (4096 * t.val)) (sVec (XV V) (4096 * t.val))
    = sVec (XV V) (4096 * (t.val + 1)) := by
  have ht : t.val < 25 := t.isLt
  rw [sNew_eq _ _ (by omega) hX, Nat.mul_succ]
include hX in
/-- The running places a grid point leaves. -/
theorem a_next : aNew (F := Ideal) (grid0.coords t) (lVec (XV V) (4096 * t.val)) (mVec (XV V) (4096 * t.val)) (aVec (XV V) (4096 * t.val))
    = aVec (XV V) (4096 * (t.val + 1)) := by
  have ht : t.val < 25 := t.isLt
  have e := coords0 t
  have := aNew_eq (XV V) (grid0.coords t) (by rw [e]; omega) hX
  rw [e] at this
  rw [this, Nat.mul_succ]
end

section
variable (V : Valuation τ sig (Elt Ideal)) (c : Dev nD) (t : Fin cfg0.N)

/-- The last grid point writes the columns. -/
theorem notIdle6 (h : isLast (grid0.coords t)) : cfg0.idle 6 (grid0.coords t) = false := by
  change (!(k0_cond3 (grid0.coords t) == 1#1)) = false
  rw [show k0_cond3 (grid0.coords t) = 1#1 from h]; rfl
/-- No other grid point writes the columns. -/
theorem idle6 (h : ¬isLast (grid0.coords t)) : cfg0.idle 6 (grid0.coords t) = true := by
  change (!(k0_cond3 (grid0.coords t) == 1#1)) = true
  rw [beq_eq_false_iff_ne.2 h]; rfl
/-- The log-sum-exps are written back at the last grid point only. -/
theorem noFlush6 (h : ¬isLast (grid0.coords t)) : (cfg0.win 6).flush t = false := by
  rw [← Bool.not_eq_true, flush0_6]
  intro e
  have ht : t.val < 25 := t.isLt
  exact h ((last0 t).2 (by omega))
/-- The actions are written back at the last grid point only. -/
theorem noFlush7 (h : ¬isLast (grid0.coords t)) : (cfg0.win 7).flush t = false := by
  rw [← Bool.not_eq_true, flush0_7]
  intro e
  have ht : t.val < 25 := t.isLt
  exact h ((last0 t).2 (by omega))

/-- The log-sum-exp window after a point: written at the last one, as it was before any other. -/
theorem leave6 (Φ) (d) (hl : isLast (grid0.coords t) → t.val + 1 = 25) :
    (owns (c : Thread nD τ) (st0_6 t) fullShare (lseOut (F := Ideal) (grid0.coords t) (mVec (XV V) (4096 * (t.val + 1)))
      (sVec (XV V) (4096 * (t.val + 1))) ((xdat0 (U := U) V c Φ).before 6 t d)) : sProp 𝕄)
    ⊢ (xdat0 (U := U) V c Φ).leaves 6 t := by
  unfold Dat.leaves lseOut
  by_cases h : isLast (grid0.coords t)
  · rw [notIdle6 t h, if_pos h, hl h]
    exact .rfl
  · rw [idle6 t h, if_neg h, noFlush6 t h]
    iintro H; iexists d; iexact H
/-- The actions' window, likewise. -/
theorem leave7 (Φ) (d) (hl : isLast (grid0.coords t) → t.val + 1 = 25) :
    (owns (c : Thread nD τ) (st0_7 t) fullShare (actOut (F := Ideal) (grid0.coords t) (aVec (XV V) (4096 * (t.val + 1)))
      ((xdat0 (U := U) V c Φ).before 7 t d)) : sProp 𝕄)
    ⊢ (xdat0 (U := U) V c Φ).leaves 7 t := by
  unfold Dat.leaves actOut
  by_cases h : isLast (grid0.coords t)
  · rw [show cfg0.idle 7 (grid0.coords t) = false from notIdle6 t h, if_pos h, hl h]
    exact .rfl
  · rw [show cfg0.idle 7 (grid0.coords t) = true from idle6 t h, if_neg h, noFlush7 t h]
    iintro H; iexists d; iexact H
end

/-- Each grid point of the first region takes the running values one block further and leaves its block of logits. -/
theorem xbody0 (V : Valuation τ sig (Elt Ideal)) (hX : ∀ r, Row 100000 (XV V r)) (c : Dev nD) :
    BodyObligationLoose (xdat0 (U := U) V c (ΦX V c)) (defs₀ (F := Ideal)) Variants.none () Set.univ (fun _ => false) := fun t => by
  rw [bigSep_W0, bigSep_W0]
  have hstep : iprop(ΦX V c t.castSucc ∗ (xdat0 (U := U) V c (ΦX V c)).owesAt () t.castSucc
      ∗ (∃ d, owns (c : Thread nD τ) (st0_0 t) fullShare ((xdat0 (U := U) V c (ΦX V c)).before 0 t d))
      ∗ (∃ d, owns (c : Thread nD τ) (st0_1 t) fullShare ((xdat0 (U := U) V c (ΦX V c)).before 1 t d))
      ∗ (∃ d, owns (c : Thread nD τ) (st0_2 t) fullShare ((xdat0 (U := U) V c (ΦX V c)).before 2 t d))
      ∗ (∃ d, owns (c : Thread nD τ) (st0_3 t) fullShare ((xdat0 (U := U) V c (ΦX V c)).before 3 t d))
      ∗ (∃ d, owns (c : Thread nD τ) (st0_4 t) fullShare ((xdat0 (U := U) V c (ΦX V c)).before 4 t d))
      ∗ (∃ d, owns (c : Thread nD τ) (st0_5 t) fullShare ((xdat0 (U := U) V c (ΦX V c)).before 5 t d))
      ∗ (∃ d, owns (c : Thread nD τ) (st0_6 t) fullShare ((xdat0 (U := U) V c (ΦX V c)).before 6 t d))
      ∗ (∃ d, owns (c : Thread nD τ) (st0_7 t) fullShare ((xdat0 (U := U) V c (ΦX V c)).before 7 t d)))
    ⊢ wp frame (wpE (defs₀ (F := Ideal)) Variants.none (c : Thread nD τ) none) Set.univ (bodyAt0 t) fun _ =>
      iprop(ΦX V c t.succ ∗ (xdat0 (U := U) V c (ΦX V c)).owesAt () t.castSucc
      ∗ owns (c : Thread nD τ) (st0_0 t) fullShare (blk0_0 V t) ∗ owns (c : Thread nD τ) (st0_1 t) fullShare (blk0_1 V t)
      ∗ owns (c : Thread nD τ) (st0_2 t) fullShare (blk0_2 V t)
      ∗ (∃ d, owns (c : Thread nD τ) (st0_3 t) fullShare (win0_3.fill (grid0.coords t) d (win0_3.cut (grid0.coords t) (blk0_3 V t (fun _ => Scalar.ofBits (F := Ideal) .f32 0#32)))))
      ∗ (∃ d, owns (c : Thread nD τ) (st0_4 t) fullShare (win0_4.fill (grid0.coords t) d (win0_4.cut (grid0.coords t) (blk0_4 V t (fun _ => Scalar.ofBits (F := Ideal) .f32 0#32)))))
      ∗ (∃ d, owns (c : Thread nD τ) (st0_5 t) fullShare (win0_5.fill (grid0.coords t) d (win0_5.cut (grid0.coords t) (lVec (XV V) (4096 * t.val)))))
      ∗ (xdat0 (U := U) V c (ΦX V c)).leaves 6 t
      ∗ (xdat0 (U := U) V c (ΦX V c)).leaves 7 t) := by
    have b0 : ∀ d, (xdat0 (U := U) V c (ΦX V c)).before 0 t d = blk0_0 V t := fun d => before0_0 _ _ _ _ _ _ t d
    have b1 : ∀ d, (xdat0 (U := U) V c (ΦX V c)).before 1 t d = blk0_1 V t := fun d => before0_1 _ _ _ _ _ _ t d
    have b2 : ∀ d, (xdat0 (U := U) V c (ΦX V c)).before 2 t d = blk0_2 V t := fun d => before0_2 _ _ _ _ _ _ t d
    have b3 : ∀ d, (xdat0 (U := U) V c (ΦX V c)).before 3 t d = blk0_3 V t d := fun d => before0_3 _ _ _ _ _ _ t d
    have b4 : ∀ d, (xdat0 (U := U) V c (ΦX V c)).before 4 t d = blk0_4 V t d := fun d => before0_4 _ _ _ _ _ _ t d
    simp only [b0, b1, b2, b3, b4]
    unfold ΦX
    iintro ⟨⟨%f0, %f1, %f2, %f3, %hc, S0, S1, S2, S3, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hc : Carried V t.val f0 f1 f2 f3 := hc
    have hl : isLast (grid0.coords t) → t.val + 1 = 25 := fun h => by rw [(last0 t).1 h]
    have hbody := logits_body (F := Ideal) (Ix := Unit) (Name := ℕ) (U := U) (Lvl := ℕ) Variants.none c Set.univ (grid0.coords t) (st0_0 t) (hstage0_0 ((cfg0.slots t 0).cast nbuf0_0))
      (st0_1 t) (hstage0_1 ((cfg0.slots t 1).cast nbuf0_1)) (st0_2 t) (hstage0_2 ((cfg0.slots t 2).cast nbuf0_2))
      (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6))
      (st0_7 t) (hstage0_7 ((cfg0.slots t 7).cast nbuf0_7))
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (blk0_0 V t) (blk0_1 V t) (blk0_2 V t) (blk0_3 V t d3) (blk0_4 V t d4)
      ((xdat0 (U := U) V c (ΦX V c)).before 5 t d5) ((xdat0 (U := U) V c (ΦX V c)).before 6 t d6)
      ((xdat0 (U := U) V c (ΦX V c)).before 7 t d7) f0 f1 f2 f3
    rw [hc.hid_eq, hc.m_eq, hc.s_eq, hc.a_eq, lgt_eq, m_next t, s_next hX t, a_next hX t] at hbody
    iapply (hbody _)
    isplitl [S0 S1 S2 S3 H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      iexact S3
    iintro ⟨H0, H1, H2, H3, H4, H5, H6, H7, S0, S1, S2, S3⟩
    isplitl [S0 S1 S2 S3 HR HP]
    · iexists (hV V); iexists (mVec (XV V) (4096 * (t.val + 1))); iexists (sVec (XV V) (4096 * (t.val + 1))); iexists (aVec (XV V) (4096 * (t.val + 1)))
      isplitr; · ipureintro; exact fun _ => ⟨rfl, rfl, rfl, rfl⟩
      isplitl [S0]; · iexact S0
      isplitl [S1]; · iexact S1
      isplitl [S2]; · iexact S2
      isplitl [S3]; · iexact S3
      isplitl [HR]; · iexact HR
      iexact HP
    isplitl [Ho]; · iexact Ho
    isplitl [H0]; · iexact H0
    isplitl [H1]; · iexact H1
    isplitl [H2]; · iexact H2
    isplitl [H3]; · iexists d3; rw [fill0_3]; iexact H3
    isplitl [H4]; · iexists d4; rw [fill0_4]; iexact H4
    isplitl [H5]; · iexists (lVec (XV V) (4096 * t.val)); rw [Window.fill_cut]; iexact H5
    isplitl [H6]; · iapply (leave6 V c t (ΦX V c) d6 hl); iexact H6
    iapply (leave7 V c t (ΦX V c) d7 hl); iexact H7
  exact hstep

/-- Each grid point of the second region leaves its block of probabilities. -/
theorem xbody1 (V : Valuation τ sig (Elt Ideal)) (c : Dev nD) :
    BodyObligationLoose (xdat1 (U := U) V c (fun _ => Φ1 c)) (defs₀ (F := Ideal)) Variants.none () Set.univ (fun _ => false) := fun t => by
  rw [bigSep_W1, bigSep_W1]
  have hstep : iprop(Φ1 c ∗ (xdat1 (U := U) V c (fun _ => Φ1 c)).owesAt () t.castSucc
      ∗ (∃ d, owns (c : Thread nD τ) (st1_0 t) fullShare ((xdat1 (U := U) V c (fun _ => Φ1 c)).before 0 t d))
      ∗ (∃ d, owns (c : Thread nD τ) (st1_1 t) fullShare ((xdat1 (U := U) V c (fun _ => Φ1 c)).before 1 t d))
      ∗ (∃ d, owns (c : Thread nD τ) (st1_2 t) fullShare ((xdat1 (U := U) V c (fun _ => Φ1 c)).before 2 t d)))
    ⊢ wp frame (wpE (defs₀ (F := Ideal)) Variants.none (c : Thread nD τ) none) Set.univ (bodyAt1 t) fun _ =>
      iprop(Φ1 c ∗ (xdat1 (U := U) V c (fun _ => Φ1 c)).owesAt () t.castSucc
      ∗ (∃ d, owns (c : Thread nD τ) (st1_0 t) fullShare (win1_0.fill (grid1.coords t) d (win1_0.cut (grid1.coords t) (blk1_0 V t (fun _ => Scalar.ofBits (F := Ideal) .f32 0#32)))))
      ∗ owns (c : Thread nD τ) (st1_1 t) fullShare (blk1_1 V t)
      ∗ (∃ d, owns (c : Thread nD τ) (st1_2 t) fullShare (win1_2.fill (grid1.coords t) d (win1_2.cut (grid1.coords t) (pVec V t))))) := by
    have b0 : ∀ d, (xdat1 (U := U) V c (fun _ => Φ1 c)).before 0 t d = blk1_0 V t d := fun d => before1_0 _ _ _ _ t d
    have b1 : ∀ d, (xdat1 (U := U) V c (fun _ => Φ1 c)).before 1 t d = blk1_1 V t := fun d => before1_1 _ _ _ _ t d
    simp only [b0, b1]
    iintro ⟨HΦ, Ho, ⟨%d0, H0⟩, ⟨%d1, H1⟩, ⟨%d2, H2⟩⟩
    iapply (probs_body (F := Ideal) Variants.none c Set.univ (grid1.coords t) (st1_0 t) (hstage1_0 ((cfg1.slots t 0).cast nbuf1_0))
      (st1_1 t) (hstage1_1 ((cfg1.slots t 1).cast nbuf1_1)) (st1_2 t) (hstage1_2 ((cfg1.slots t 2).cast nbuf1_2))
      (blk1_0 V t d0) (blk1_1 V t) ((xdat1 (U := U) V c (fun _ => Φ1 c)).before 2 t d2))
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexists d0; rw [fill1_0]; iexact H0
    isplitl [H1]; · iexact H1
    iexists (k1_pay1 (F := Ideal) (blk1_0 V t d0) (blk1_1 V t))
    rw [win1_2.fill_congr_cut _ (cut1_2 V t d0)]
    iexact H2
  exact hstep

end Cert.KernelIdeal.Value

end
-- ==== Proof.ExactIdeal.lean ====
module

public import proofs.«01_k».proof.Proof.BodyIdeal
public import proofs.«01_k».proof.Proof.FrameKernelIdeal

/-! # The run of the kernel at the extended reals, every result named

From a launch memory whose logits are real, the program ends with every buffer at `Vr4`: the host stretches applied
around the two regions' arrays. -/

@[expose] public section

set_option maxRecDepth 16384

noncomputable section

namespace Cert.KernelIdeal.Value

open Cert.KernelIdeal Cert.KernelIdeal.Gen Cert.RegionHost Cert.Online
open Cert.KernelIdeal.Regions
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose Seg HostSeg cellsGhost toksInit pin)

local notation "𝕄" => MT nD τ sig Unit (Elt Ideal) ℕ UU ℕ

/-- Both regions' proof data, every window named. -/
def xpd (V : Valuation τ sig (Elt Ideal)) : (p : Fin 2) → (c : Dev nD) → Dat τ (Elt Ideal) Unit ℕ UU ℕ (pin (pcfgs (F := Ideal)) adm p) c :=
  fun | ⟨0, _⟩ => fun c => xdat0 V c (ΦX V c) | ⟨1, _⟩ => fun c => xdat1 V c (fun _ => Φ1 c)
      | ⟨_ + 2, h⟩ => absurd h (Nat.not_lt.2 (Nat.le_add_left _ _))
/-- No window's contents are left unnamed. -/
def xfg : (p : Fin 2) → Fin (pin (pcfgs (F := Ideal)) adm p).W → Bool := fun _ _ => false

/-- The buffers after the first region, entered at `V`. -/
def next0 (V : Valuation τ sig (Elt Ideal)) (c : Dev nD) : Valuation τ sig (Elt Ideal) :=
  mk0 V c (fun w => (xdat0 (U := UU) V c (ΦX V c)).arrAt w cfg0.N)
/-- The buffers after the second region, entered at `V`. -/
def next1 (V : Valuation τ sig (Elt Ideal)) (c : Dev nD) : Valuation τ sig (Elt Ideal) :=
  mk1 V c (fun w => (xdat1 (U := UU) V c (fun _ => Φ1 c)).arrAt w cfg1.N)

/-- The first region leaves the logits. -/
theorem next0_5 (V : Valuation τ sig (Elt Ideal)) (c : Dev nD) : next0 V c main_v14_0 = G5 V := by
  unfold next0; rw [mk0_5]; exact arr0_5 V c _
/-- The first region leaves the log-sum-exps. -/
theorem next0_6 (V : Valuation τ sig (Elt Ideal)) (c : Dev nD) : next0 V c main_v14_1 = G6 V := by
  unfold next0; rw [mk0_6]; exact arr0_6 V c _
/-- The first region leaves the actions. -/
theorem next0_7 (V : Valuation τ sig (Elt Ideal)) (c : Dev nD) : next0 V c main_v14_2 = G7 V := by
  unfold next0; rw [mk0_7]; exact arr0_7 V c _
/-- The second region leaves the probabilities. -/
theorem next1_2 (V : Valuation τ sig (Elt Ideal)) (c : Dev nD) : next1 V c main_v15 = G2 V := by
  unfold next1; rw [mk1_2]; exact arr1_2 V c _

/-- Every array of the first region is at `next0`. -/
theorem next0_arr (V : Valuation τ sig (Elt Ideal)) (c : Dev nD) (A : (w : Fin 8) → Buf (Elt Ideal) ((cfg0.win w).arr.view.loc (c.tc : Thread nD τ)))
    (hA : ∀ w, A w = (xdat0 (U := UU) V c (ΦX V c)).arrAt w cfg0.N) (w : Fin 8) :
    A w = next0 V c (Proc.devRef .tc (Pipeline.arrRef spec0 w)) := by
  rw [hA w]
  by_cases hw : (cfg0.win w).isOut = false
  · have hne : ∀ w : Fin 8, (cfg0.win w).isOut = false → Pipeline.arrRef spec0 w ≠ main_v14_0 ∧ Pipeline.arrRef spec0 w ≠ main_v14_1
      ∧ Pipeline.arrRef spec0 w ≠ main_v14_2 := by decide
    unfold next0
    rw [mk0_of V c _ _ (StableHlo.devRef_ne_of_ne (hne w hw).1) (StableHlo.devRef_ne_of_ne (hne w hw).2.1) (StableHlo.devRef_ne_of_ne (hne w hw).2.2)]
    exact (xdat0 (U := UU) V c (ΦX V c)).arrAt_in w hw cfg0.N
  · have h567 : w = 5 ∨ w = 6 ∨ w = 7 := (show ∀ w : Fin 8, (cfg0.win w).isOut ≠ false → w = 5 ∨ w = 6 ∨ w = 7 by decide) w hw
    rcases h567 with rfl | rfl | rfl
    · exact (mk0_5 V c (fun w => (xdat0 (U := UU) V c (ΦX V c)).arrAt w cfg0.N)).symm
    · exact (mk0_6 V c (fun w => (xdat0 (U := UU) V c (ΦX V c)).arrAt w cfg0.N)).symm
    · exact (mk0_7 V c (fun w => (xdat0 (U := UU) V c (ΦX V c)).arrAt w cfg0.N)).symm

/-- Every array of the second region is at `next1`. -/
theorem next1_arr (V : Valuation τ sig (Elt Ideal)) (c : Dev nD) (A : (w : Fin 3) → Buf (Elt Ideal) ((cfg1.win w).arr.view.loc (c.tc : Thread nD τ)))
    (hA : ∀ w, A w = (xdat1 (U := UU) V c (fun _ => Φ1 c)).arrAt w cfg1.N) (w : Fin 3) :
    A w = next1 V c (Proc.devRef .tc (Pipeline.arrRef spec1 w)) := by
  rw [hA w]
  by_cases hw : (cfg1.win w).isOut = false
  · have hne : ∀ w : Fin 3, (cfg1.win w).isOut = false → Pipeline.arrRef spec1 w ≠ main_v15 := by decide
    unfold next1
    rw [mk1_of V c _ _ (StableHlo.devRef_ne_of_ne (hne w hw))]
    exact (xdat1 (U := UU) V c (fun _ => Φ1 c)).arrAt_in w hw cfg1.N
  · have h2 : w = 2 := (show ∀ w : Fin 3, (cfg1.win w).isOut ≠ false → w = 2 by decide) w hw
    subst h2
    exact (mk1_2 V c (fun w => (xdat1 (U := UU) V c (fun _ => Φ1 c)).arrAt w cfg1.N)).symm

/-- The input arrays are held in full. -/
theorem xshare0 (V : Valuation τ sig (Elt Ideal)) (c : Dev nD) (w : Fin 8) : (xdat0 (U := UU) V c (ΦX V c)).share w = fullShare := by
  unfold Dat.share; split <;> rfl
theorem xshare1 (V : Valuation τ sig (Elt Ideal)) (c : Dev nD) (w : Fin 3) : (xdat1 (U := UU) V c (fun _ => Φ1 c)).share w = fullShare := by
  unfold Dat.share; split <;> rfl

set_option backward.isDefEq.respectTransparency.types false in
/-- The first region's record, entered at `V`, whose logits are real. -/
def XR0 (V : Valuation τ sig (Elt Ideal)) (hX : ∀ r, Row 100000 (XV V r)) :
    RDat.RegionSeg (pcfgs (F := Ideal)) adm (Pipeline.toRsF (pcfgs (F := Ideal)) adm (xpd V) xfg) () defs₀ Variants.none LL lv₀ 0 :=
  RDat.RegionSeg.ofHeldF (pcfgs (F := Ideal)) adm (xpd V) () defs₀ Variants.none LL lv₀ 0 (fun _ => 0) xfg () noSem
    (Pipeline.OwnSemFacts.none _) ∅ ∅ (Pipeline.ucRefs τ sig \ Pipeline.arrRefs spec0)
    (by rw [hbm0]; exact Finset.empty_subset _) (by rw [hbm0]; exact Finset.empty_subset _)
    (launch0.toP) rfl (fun c => xbody0 V hX c) (fun _ _ => rfl) (fun _ => rfl) (fun c w => xshare0 V c w)
    mayWaits
    (fun _ => V) (fun c _ _ => next0 V c)
    (fun c A _ hA w => next0_arr V c A (fun w => hA w rfl) w) (fun _ _ _ b hb => absurd hb (Finset.notMem_empty b))
    (fun c A _ d hd => by
      rw [hbm0, Finset.sdiff_empty, Finset.sdiff_empty] at hd
      exact mk0_of V c _ d (off0 d (Finset.mem_sdiff.mp hd).2 5) (off0 d (Finset.mem_sdiff.mp hd).2 6) (off0 d (Finset.mem_sdiff.mp hd).2 7))
    (fun _ _ _ d hd => absurd hd (Finset.notMem_empty d))
    (fun c => (enter0 c V).trans (ΦX_start V c)) (fun c => (ΦX_end V c _).trans (leave0 c V))
    (fun _ => 0) (cut 0) (fun _ => iprop(emp)) (fun c w => rfl)

set_option backward.isDefEq.respectTransparency.types false in
/-- The second region's record, entered at `V`. -/
def XR1 (V : Valuation τ sig (Elt Ideal)) :
    RDat.RegionSeg (pcfgs (F := Ideal)) adm (Pipeline.toRsF (pcfgs (F := Ideal)) adm (xpd V) xfg) () defs₀ Variants.none LL lv₀ 1 :=
  RDat.RegionSeg.ofHeldF (pcfgs (F := Ideal)) adm (xpd V) () defs₀ Variants.none LL lv₀ 1 (fun _ => 0) xfg () noSem
    (Pipeline.OwnSemFacts.none _) ∅ ∅ (Pipeline.ucRefs τ sig \ Pipeline.arrRefs spec1)
    (by rw [hbm0]; exact Finset.empty_subset _) (by rw [hbm0]; exact Finset.empty_subset _)
    (launch1.toP) rfl (fun c => xbody1 V c) (fun _ _ => rfl) (fun _ => rfl) (fun c w => xshare1 V c w)
    mayWaits
    (fun _ => V) (fun c _ _ => next1 V c)
    (fun c A _ hA w => next1_arr V c A (fun w => hA w rfl) w) (fun _ _ _ b hb => absurd hb (Finset.notMem_empty b))
    (fun c A _ d hd => by
      rw [hbm0, Finset.sdiff_empty, Finset.sdiff_empty] at hd
      exact mk1_of V c _ d (off1 d (Finset.mem_sdiff.mp hd).2 2))
    (fun _ _ _ d hd => absurd hd (Finset.notMem_empty d))
    (fun c => enter1 c V) (fun c => leave1 c V)
    (fun _ => 0) (cut 1) (fun _ => iprop(emp)) (fun c w => rfl)

variable (m : (ℓ : Loc nD τ sig) → Buf (Elt Ideal) ℓ)

/-- The buffers after the first region, after the second, and at the end. -/
def Vr2 (c : Dev nD) : Valuation τ sig (Elt Ideal) := next0 (V1 m c) c
@[inherit_doc Vr2] def Vr3 (c : Dev nD) : Valuation τ sig (Elt Ideal) := next1 (Vr2 m c) c
@[inherit_doc Vr2] def Vr4 (c : Dev nD) : Valuation τ sig (Elt Ideal) := StableHlo.after hostOps2 (Vr3 m c)

/-- The arguments are as launched after the first region, and at the end. -/
theorem Vr2_args (c : Dev nD) : Args m c (Vr2 m c) := by
  unfold Vr2 next0
  exact mk0_args m (V1 m c) c _ (args_host0 m c (V0 m c) fun _ _ => rfl)
theorem Vr4_args (c : Dev nD) : Args m c (Vr4 m c) := by
  unfold Vr4 Vr3 next1
  exact args_host2 m c _ (mk1_args m (Vr2 m c) c _ (Vr2_args m c))

/-- The unscoped buffers at `V`. -/
def at_ (V : Dev nD → Valuation τ sig (Elt Ideal)) (c : Dev nD) : sProp 𝕄 :=
  iprop(∃ W, ⌜W = V c⌝ ∗ StableHlo.held (c : Thread nD τ) (Pipeline.ucRefs τ sig) W)

/-- The host stretch before the regions. -/
def XS0 : HostSeg (Ix := Unit) (Name := ℕ) (U := UU) (Lvl := ℕ) (pcfgs (F := Ideal)) defs₀ Variants.none LL lv₀ :=
  exOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c W => W = V0 m c) (fun c W => W = V1 m c)
    (fun _ _ h => by rw [h]) (fun c => iprop(side c ∗ ghost 0 c ∗ ghost 1 c))

/-- The unscoped buffers and the rest are what the first region starts from. -/
theorem XR0_pre (V : Valuation τ sig (Elt Ideal)) (hX) (c : Dev nD) :
    iprop(StableHlo.held (c : Thread nD τ) (Pipeline.ucRefs τ sig) V ∗ side c) ⊢ (XR0 V hX).pre c := by
  show _ ⊢ iprop(StableHlo.held (c.tc : Thread nD τ) (Pipeline.arrRefs spec0) V ∗ (∃ r, prngReg c r)
    ∗ (StableHlo.held (c.tc : Thread nD τ) (Pipeline.ucRefs τ sig \ Pipeline.arrRefs spec0) V ∗ iprop(emp)) ∗ ∃ Wd, owes (c : Thread nD τ) 0 Wd)
  rw [StableHlo.held_sub_split (c.tc : Thread nD τ) arrs0 V]
  unfold side
  iintro ⟨⟨Ha, Hr⟩, Hp, Ho⟩
  isplitl [Ha]; · iexact Ha
  isplitl [Hp]; · iexact Hp
  isplitl [Hr]
  · isplitl [Hr]; · iexact Hr
    iempintro
  iexact Ho

/-- What the first region leaves is the unscoped buffers at `next0` and the rest. -/
theorem XR0_post (V : Valuation τ sig (Elt Ideal)) (hX) (c : Dev nD) :
    (XR0 V hX).post c ⊢ iprop(StableHlo.held (c : Thread nD τ) (Pipeline.ucRefs τ sig) (next0 V c) ∗ side c) := by
  show iprop(∃ _A : ((w : Fin 8) → Buf (Elt Ideal) ((cfg0.win w).arr.view.loc (c.tc : Thread nD τ))), ∃ _g : ((b : Ref sig .tc) → Buf (Elt Ideal) ((c.tc : Thread nD τ).loc b)), StableHlo.held (c.tc : Thread nD τ) (Pipeline.arrRefs spec0) (next0 V c) ∗ (∃ r, prngReg c r)
    ∗ (StableHlo.held (c.tc : Thread nD τ) (Pipeline.ucRefs τ sig \ Pipeline.arrRefs spec0) (next0 V c) ∗ iprop(emp)) ∗ ∃ Wd, owes (c : Thread nD τ) 0 Wd) ⊢ _
  iintro ⟨%A, %g, Ha, Hp, ⟨Hr, -⟩, Ho⟩
  unfold side
  isplitl [Ha Hr]
  · rw [StableHlo.held_sub_split (c.tc : Thread nD τ) arrs0 (next0 V c)]
    isplitl [Ha]; · iexact Ha
    iexact Hr
  isplitl [Hp]; · iexact Hp
  iexact Ho

/-- The unscoped buffers and the rest are what the second region starts from. -/
theorem XR1_pre (V : Valuation τ sig (Elt Ideal)) (c : Dev nD) :
    iprop(StableHlo.held (c : Thread nD τ) (Pipeline.ucRefs τ sig) V ∗ side c) ⊢ (XR1 V).pre c := by
  show _ ⊢ iprop(StableHlo.held (c.tc : Thread nD τ) (Pipeline.arrRefs spec1) V ∗ (∃ r, prngReg c r)
    ∗ (StableHlo.held (c.tc : Thread nD τ) (Pipeline.ucRefs τ sig \ Pipeline.arrRefs spec1) V ∗ iprop(emp)) ∗ ∃ Wd, owes (c : Thread nD τ) 0 Wd)
  rw [StableHlo.held_sub_split (c.tc : Thread nD τ) arrs1 V]
  unfold side
  iintro ⟨⟨Ha, Hr⟩, Hp, Ho⟩
  isplitl [Ha]; · iexact Ha
  isplitl [Hp]; · iexact Hp
  isplitl [Hr]
  · isplitl [Hr]; · iexact Hr
    iempintro
  iexact Ho

/-- What the second region leaves is the unscoped buffers at `next1` and the rest. -/
theorem XR1_post (V : Valuation τ sig (Elt Ideal)) (c : Dev nD) :
    (XR1 V).post c ⊢ iprop(StableHlo.held (c : Thread nD τ) (Pipeline.ucRefs τ sig) (next1 V c) ∗ side c) := by
  show iprop(∃ _A : ((w : Fin 3) → Buf (Elt Ideal) ((cfg1.win w).arr.view.loc (c.tc : Thread nD τ))), ∃ _g : ((b : Ref sig .tc) → Buf (Elt Ideal) ((c.tc : Thread nD τ).loc b)), StableHlo.held (c.tc : Thread nD τ) (Pipeline.arrRefs spec1) (next1 V c) ∗ (∃ r, prngReg c r)
    ∗ (StableHlo.held (c.tc : Thread nD τ) (Pipeline.ucRefs τ sig \ Pipeline.arrRefs spec1) (next1 V c) ∗ iprop(emp)) ∗ ∃ Wd, owes (c : Thread nD τ) 0 Wd) ⊢ _
  iintro ⟨%A, %g, Ha, Hp, ⟨Hr, -⟩, Ho⟩
  unfold side
  isplitl [Ha Hr]
  · rw [StableHlo.held_sub_split (c.tc : Thread nD τ) arrs1 (next1 V c)]
    isplitl [Ha]; · iexact Ha
    iexact Hr
  isplitl [Hp]; · iexact Hp
  iexact Ho

/-- The first region, from the host stretch's results to `Vr2`. -/
def XS1 (hX : ∀ c r, Row 100000 (XV (V1 m c) r)) :
    HostSeg (Ix := Unit) (Name := ℕ) (U := UU) (Lvl := ℕ) (pcfgs (F := Ideal)) defs₀ Variants.none LL lv₀ :=
  (exRegion (pcfgs (F := Ideal)) adm () cellOf_inj ER defs₀ Variants.none LL lv₀
    (fun (γ : {V : Valuation τ sig (Elt Ideal) // ∀ r, Row 100000 (XV V r)}) c => γ.1 = V1 m c)
    (fun γ => Pipeline.toRsF (pcfgs (F := Ideal)) adm (xpd γ.1) xfg) 0 (fun γ => XR0 γ.1 γ.2) (fun c => ghost 1 c)).conseq
    (fun c => iprop(at_ (V1 m) c ∗ side c ∗ ghost 0 c ∗ ghost 1 c)) (fun c => iprop(at_ (Vr2 m) c ∗ side c ∗ ghost 1 c))
    (fun c => by
      show _ ⊢ iprop((∃ γ : {V : Valuation τ sig (Elt Ideal) // ∀ r, Row 100000 (XV V r)}, ⌜γ.1 = V1 m c⌝ ∗ (XR0 γ.1 γ.2).pre c) ∗ ghost 0 c ∗ ghost 1 c)
      unfold at_
      iintro ⟨⟨%W, %hW, Hh⟩, Hs, Hg0, Hg1⟩
      have hW : W = V1 m c := hW
      subst hW
      isplitl [Hh Hs]
      · iexists (⟨V1 m c, hX c⟩ : {V : Valuation τ sig (Elt Ideal) // ∀ r, Row 100000 (XV V r)})
        isplitr; · ipureintro; rfl
        iapply (XR0_pre (V1 m c) (hX c) c)
        isplitl [Hh]; · iexact Hh
        iexact Hs
      isplitl [Hg0]; · iexact Hg0
      iexact Hg1)
    (fun c => by
      show iprop((∃ γ : {V : Valuation τ sig (Elt Ideal) // ∀ r, Row 100000 (XV V r)}, ⌜γ.1 = V1 m c⌝ ∗ (XR0 γ.1 γ.2).post c) ∗ ghost 1 c) ⊢ _
      iintro ⟨⟨%γ, %hV, Hh⟩, Hg1⟩
      have hV : γ.1 = V1 m c := hV
      ihave H := (XR0_post γ.1 γ.2 c) $$ Hh
      icases H with ⟨Hb, Hs⟩
      isplitl [Hb]
      · unfold at_
        iexists (next0 γ.1 c)
        isplitr; · ipureintro; rw [hV]; rfl
        iexact Hb
      isplitl [Hs]; · iexact Hs
      iexact Hg1)

/-- The second region, from `Vr2` to `Vr3`. -/
def XS2 : HostSeg (Ix := Unit) (Name := ℕ) (U := UU) (Lvl := ℕ) (pcfgs (F := Ideal)) defs₀ Variants.none LL lv₀ :=
  (exRegion (pcfgs (F := Ideal)) adm () cellOf_inj ER defs₀ Variants.none LL lv₀ (fun V c => V = Vr2 m c)
    (fun V => Pipeline.toRsF (pcfgs (F := Ideal)) adm (xpd V) xfg) 1 (fun V => XR1 V) (fun _ => iprop(emp))).conseq
    (fun c => iprop(at_ (Vr2 m) c ∗ side c ∗ ghost 1 c)) (fun c => iprop(at_ (Vr3 m) c ∗ side c))
    (fun c => by
      show _ ⊢ iprop((∃ V, ⌜V = Vr2 m c⌝ ∗ (XR1 V).pre c) ∗ ghost 1 c ∗ iprop(emp))
      unfold at_
      iintro ⟨⟨%V, %hV, Hh⟩, Hs, Hg1⟩
      isplitl [Hh Hs]
      · iexists V
        isplitr; · ipureintro; exact hV
        iapply (XR1_pre V c)
        isplitl [Hh]; · iexact Hh
        iexact Hs
      isplitl [Hg1]; · iexact Hg1
      iempintro)
    (fun c => by
      show iprop((∃ V, ⌜V = Vr2 m c⌝ ∗ (XR1 V).post c) ∗ iprop(emp)) ⊢ _
      iintro ⟨⟨%V, %hV, Hh⟩, -⟩
      have hV : V = Vr2 m c := hV
      ihave H := (XR1_post V c) $$ Hh
      icases H with ⟨Hb, Hs⟩
      isplitl [Hb]
      · unfold at_
        iexists (next1 V c)
        isplitr; · ipureintro; rw [hV]; rfl
        iexact Hb
      iexact Hs)

/-- The host stretch after the regions. -/
def XS3 : HostSeg (Ix := Unit) (Name := ℕ) (U := UU) (Lvl := ℕ) (pcfgs (F := Ideal)) defs₀ Variants.none LL lv₀ :=
  exOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (fun c W => W = Vr3 m c) (fun c W => W = Vr4 m c)
    (fun _ _ h => by rw [h]; rfl) (fun c => side c)

set_option backward.isDefEq.respectTransparency.types false in
/-- From a launch memory whose logits are real the program ends, with every unscoped buffer at `Vr4`. -/
theorem run_main (hX : ∀ c r, Row 100000 (XV (V1 m c) r)) (ρ : Dev nD → PrngReg) :
    θ_run defs (onTc (τ := τ) (main (F := Ideal))) ⟨m, fun _ => 0, ρ⟩ (fun r => ∀ c : Dev nD,
      ∀ b : Ref sig .tc, (Proc.devRef .tc b : DevRef τ sig).isScoped = false →
        r.2.mem ((c.tc : Thread nD τ).loc b) = Vr4 m c (Proc.devRef .tc b)) := by
  refine Pipeline.RDat.θ_run_regions_kit_dev_sems (pcfgs (F := Ideal)) adm
    (Pipeline.toRsF (pcfgs (F := Ideal)) adm (xpd (V0 m ⟨0, by decide⟩)) xfg) () cellOf_inj
    (embL : Emb (URounds (GSem nD τ sig) Unit) 𝕄) defs₀ Variants.none LL lv₀ m ρ main
    (fun _ => [.host (XS0 m), .host (XS1 m hX), .host (XS2 m), .host (XS3 m)])
    (fun c Q => by
      rewrite [main_chain c, Pipeline.RDat.Seg.run_eq_chain]
      exact .rfl)
    (fun c => by simp [Pipeline.RDat.Seg.pipes, Pipeline.RDat.Seg.pipe?]) (fun _ => 0)
    (fun g h => by unfold LL; rw [if_neg h]) (fun c => iprop(ghost (F := Ideal) 0 c ∗ ghost (F := Ideal) 1 c)) u₀ deal
    (T₀ := fun c => iprop((∃ V, ⌜V = V0 m c⌝ ∗ StableHlo.held (c.tc : Thread nD τ) (Pipeline.ucRefs τ sig) V) ∗ side c ∗ ghost 0 c ∗ ghost 1 c))
    (Tₙ := fun c => at_ (Vr4 m) c)
    (hch := fun c => ⟨.rfl, ?_, .rfl, ?_, ?_⟩)
    (hinit := Pipeline.initEach LL lv₀ fun c => ?_)
    (QY := fun c s => ∀ b : Ref sig .tc, (Proc.devRef .tc b : DevRef τ sig).isScoped = false →
        s.mem ((c.tc : Thread nD τ).loc b) = Vr4 m c (Proc.devRef .tc b))
    (hfin := fun c s' => ?_) (hQ := fun _ h _ => h)
  · exact .rfl
  · exact .rfl
  · show iprop((∃ V, ⌜V = Vr4 m c⌝ ∗ StableHlo.held (c.tc : Thread nD τ) (Pipeline.ucRefs τ sig) V) ∗ side c) ⊢ _
    unfold at_ side
    iintro ⟨Hb, Hp, Ho⟩
    isplitl [Hb]; · iexact Hb
    iexact Ho
  · rw [← show StableHlo.held (c : Thread nD τ) (Pipeline.ucRefs τ sig) (V0 m c) = unscopedBufs c (fun b => m ((c.tc : Thread nD τ).loc b)) from
      Pipeline.unscopedBufs_held (Ix := Unit) (Name := ℕ) (U := UU) (Lvl := ℕ) c (V0 m c)]
    unfold side
    iintro ⟨⟨Hh, Hs, Ho, Hc, Hp, Hg0, Hg1⟩, Hla⟩
    imodintro
    isplitl [Hh]
    · iexists (V0 m c)
      isplitr; · ipureintro; rfl
      iexact Hh
    isplitl [Hp Ho]
    · isplitl [Hp]; · iexists _; iexact Hp
      iexists _; iexact Ho
    isplitl [Hg0]; · iexact Hg0
    iexact Hg1
  · unfold at_ StableHlo.held
    iintro ⟨⟨%V, %hV, Hh⟩, HSI⟩
    have hV : V = Vr4 m c := hV
    subst hV
    ihave Hr := (pointsTo_read_all (Pipeline.ucRefs τ sig) (fun b => ((c : Thread nD τ).1, b)) (Vr4 m c) s') $$ [Hh HSI]
    · isplitl [Hh] <;> iassumption
    icases Hr with ⟨%h, HSI⟩
    imodintro
    isplitr
    · ipureintro
      exact fun b hu => h (Proc.devRef .tc b) (Finset.mem_filter.mpr ⟨StableHlo.devRef_mem_tcRefs b, by simpa using hu⟩)
    iexact HSI

end Cert.KernelIdeal.Value

end
-- ==== Proof.RefValue.lean ====
module

public import proofs.«01_k».proof.Proof.RefRun
public import Idealize.ShloMosaic.Lib.Pointwise
public import Idealize.ShloMosaic.Lib.StableHlo.RunClose

/-! # What the reference computes, as functions of its arguments -/

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo

/-- The features: the context, the forecast where it is known, and whether it is. -/
def feats (ctx : FVec Ideal S64x1024 .f32) (fc : FVec Ideal S64x32 .f32) (mk : IVec S64x32 1) : FVec Ideal S64x1088 .f32 :=
  concatenate S64x1088 1 [⟨S64x1024, ctx⟩, ⟨S64x32, mulf (F := Ideal) (φ := .f32) fc (uitofp .f32 mk)⟩, ⟨S64x32, uitofp (F := Ideal) .f32 mk⟩]
    concatenates_S64x1024_S64x32_S64x32_S64x1088_d1

/-- The step, counted from the end where it is negative. -/
def stepAt (st : IVec S_ 32) : IVec S_ 32 :=
  select (cmpi .slt st (constantI S_ 32 0#32)) (addi st (constantI S_ 32 32#32)) st
/-- The first column, as the indexing writes it. -/
def colAt : IVec S_ 32 :=
  select (cmpi .slt (constantI S_ 32 0#32) (constantI S_ 32 0#32)) (addi (constantI S_ 32 0#32) (constantI S_ 32 256#32)) (constantI S_ 32 0#32)
/-- The step's position embedding. -/
def embed (st : IVec S_ 32) (pe : FVec Ideal S32x256 .f32) : FVec Ideal S1x256 .f32 :=
  Host.dynamicSlice S1x256 pe (fun k => ((![stepAt st, colAt] : Fin 2 → IVec S_ 32) k (Shape.Idx.first h_S_)).toInt) sliceFits_S32x256_S1x256

/-- The logits from the features `x` and the embedding `p`. -/
def logitsOf (x : FVec Ideal S64x1088 .f32) (p : FVec Ideal S1x256 .f32) (w1 : FVec Ideal S1088x256 .f32) (b1 : FVec Ideal S256 .f32)
    (w2 : FVec Ideal S256x100000 .f32) (b2 : FVec Ideal S100000 .f32) : FVec Ideal S64x100000 .f32 :=
  addf (Host.dotGeneral dot_S64x256_S256x100000_S64x100000_1_0_0_1_n_n none
      (maximumf (addf (addf (Host.dotGeneral dot_S64x1088_S1088x256_S64x256_1_0_0_1_n_n none x w1)
          (broadcastInDim S64x256 ![0, 1] bcast_S1x256_S64x256_0_1 (broadcastInDim S1x256 ![1] bcast_S256_S1x256_1 b1)))
          (broadcastInDim S64x256 ![0, 1] bcast_S1x256_S64x256_0_1 (broadcastInDim S1x256 ![1] bcast_S256_S1x256_1
            (shapeCast S256 p shapeCasts_S1x256_S256))))
        (broadcastInDim S64x256 ![] bcast_S_S64x256 (constant (F := Ideal) S_ .f32 0x00000000#32))) w2)
    (broadcastInDim S64x100000 ![0, 1] bcast_S1x100000_S64x100000_0_1 (broadcastInDim S1x100000 ![1] bcast_S100000_S1x100000_1 b2))

variable (V : Valuation τ sig (Elt Ideal))

/-- The reference's logits. -/
theorem logits_read : VA V main_v22
    = logitsOf (feats (V main_arg0) (V main_arg1) (V main_arg2)) (embed (V main_arg3) (V main_arg8)) (V main_arg4) (V main_arg5)
      (V main_arg6) (V main_arg7) := by
  after_results_simp_entrywise
  rfl

/-- The rows' exponentials, less a column of the rows' maxima. -/
def expsOf (L : FVec Ideal S64x100000 .f32) (mm : FVec Ideal S64 .f32) : FVec Ideal S64x100000 .f32 :=
  Host.exp (subf L (broadcastInDim S64x100000 ![0, 1] bcast_S64x1_S64x100000_0_1 (broadcastInDim S64x1 ![0] bcast_S64_S64x1_0 mm)))
/-- The rows' maxima. -/
def maxOf (L : FVec Ideal S64x100000 .f32) : FVec Ideal S64 .f32 :=
  Host.reduce FloatOps.maximumf L (constant (F := Ideal) S_ .f32 0xFF800000#32) reducesTo_S64x100000_S64_d1 h_S_
/-- The rows' sums. -/
def sumOf (E : FVec Ideal S64x100000 .f32) : FVec Ideal S64 .f32 :=
  Host.reduceAdd E (constant (F := Ideal) S_ .f32 0x00000000#32) reducesTo_S64x100000_S64_d1 h_S_
/-- The rows' maxima once more against −∞. -/
def maxOf' (L : FVec Ideal S64x100000 .f32) : FVec Ideal S64 .f32 :=
  maximumf (broadcastInDim S64 ![] bcast_S_S64 (constant (F := Ideal) S_ .f32 0xFF800000#32)) (maxOf L)
/-- The softmax. -/
def probsOf (L : FVec Ideal S64x100000 .f32) : FVec Ideal S64x100000 .f32 :=
  Host.divf (expsOf L (maxOf' L)) (broadcastInDim S64x100000 ![0, 1] bcast_S64x1_S64x100000_0_1
    (broadcastInDim S64x1 ![0] bcast_S64_S64x1_0 (sumOf (expsOf L (maxOf' L)))))
/-- The rows' first maxima. -/
def hardOf (L : FVec Ideal S64x100000 .f32) : IVec S64 32 := fun j =>
  (Host.argReduce reducer_argmax_f32_i32 L (iotaInDim S64x100000 32 1) (constant (F := Ideal) S_ .f32 0xFF800000#32) (constantI S_ 32 0#32)
    reducesTo_S64x100000_S64_d1 h_S_ j).2
/-- The logarithms of the rows' sums of exponentials. -/
def lseOf (L : FVec Ideal S64x100000 .f32) : FVec Ideal S64 .f32 :=
  addf (maxOf L) (Host.log (sumOf (expsOf L (maxOf L))))
/-- The actions. -/
def actionsOf (L : FVec Ideal S64x100000 .f32) : FVec Ideal S64 .f32 :=
  addf (sitofp .f32 (hardOf L)) (subf (lseOf L) (lseOf L))

/-- The reference's probabilities, when they are written. -/
theorem probs_read : VB V main_v33 = probsOf (VA V main_v22) := by
  unfold VB
  generalize VA V = W
  after_results
  rfl
/-- The logits stay to the end. -/
theorem logits_end : VD V main_v22 = VA V main_v22 :=
  (after_of_writes_sub actOps _ actOps_writes (by decide)).trans ((after_of_writes_sub argOps _ argOps_writes (by decide)).trans
    (after_of_writes_sub probsOps _ probsOps_writes (by decide)))
/-- The probabilities stay to the end. -/
theorem probs_end : VD V main_v33 = probsOf (VA V main_v22) :=
  (after_of_writes_sub actOps _ actOps_writes (by decide)).trans ((after_of_writes_sub argOps _ argOps_writes (by decide)).trans
    (probs_read V))
/-- The reference's first maxima, when they are written. -/
theorem hard_read : VC V main_v34 = hardOf (VB V main_v22) := by
  unfold VC
  generalize VB V = W
  after_results
  rfl
/-- The reference's actions, from its first maxima and logits. -/
theorem actions_read (W : Valuation τ sig (Elt Ideal)) (h : W main_v34 = hardOf (W main_v22)) :
    after actOps W main_v45 = actionsOf (W main_v22) := by
  unfold actionsOf
  rw [← h]
  after_results
  rfl
/-- The reference's actions at the end. -/
theorem actions_end : VD V main_v45 = actionsOf (VA V main_v22) := by
  have e : VC V main_v22 = VB V main_v22 := after_of_writes_sub argOps _ argOps_writes (by decide)
  have e' : VB V main_v22 = VA V main_v22 := after_of_writes_sub probsOps _ probsOps_writes (by decide)
  rw [← e', ← e]
  exact actions_read (VC V) (by rw [hard_read, e])

end Cert.ReferenceIdeal.Host

end
-- ==== Proof.HostIdeal.lean ====
module

public import proofs.«01_k».proof.Proof.ExactIdeal
public import proofs.«01_k».proof.Proof.RefValue

/-! # What the kernel's host stretch leaves for the regions

The features and the position embedding are the reference's own expressions. -/

@[expose] public section

set_option maxRecDepth 16384

noncomputable section

namespace Cert.KernelIdeal.Value

open Cert.KernelIdeal Cert.KernelIdeal.Gen
open Cert.ReferenceIdeal.Host (feats embed stepAt colAt)
open Idealize.ShloMosaic Idealize.ShloMosaic.TcCoe Idealize.ShloMosaic.StableHlo

variable (V : Valuation τ sig (Elt Ideal))

/-- The first region's features are the reference's. -/
theorem feats_read : after hostOps0 V main_v2 = feats (V main_arg0) (V main_arg1) (V main_arg2) := by
  after_results_simp_entrywise
  rfl

/-- The bias of the hidden layer with the embedding added, as a row. -/
def biasOf (b1 : FVec Ideal S256 .f32) (p : FVec Ideal S1x256 .f32) : FVec Ideal S1x256 .f32 :=
  shapeCast S1x256 (addf b1 (shapeCast S256 p shapeCasts_S1x256_S256)) shapeCasts_S256_S1x256
/-- The bias of the logits, as a row. -/
def rowBias (b2 : FVec Ideal S100000 .f32) : FVec Ideal S1x100000 .f32 := shapeCast S1x100000 b2 shapeCasts_S100000_S1x100000

/-- The first layer's bias, as the host leaves it. -/
theorem bias_read : after hostOps0 V main_v12 = biasOf (V main_arg5) (embed (V main_arg3) (V main_arg8)) := by
  after_results_simp_entrywise
  rfl
/-- The second layer's bias, as the host leaves it. -/
theorem rowBias_read : after hostOps0 V main_v13 = rowBias (V main_arg7) := by
  after_results_simp_entrywise
  rfl
/-- The actions are the column the first region leaves. -/
theorem actions_read (r) : after hostOps2 V main_v16 (ix1 r) = (V main_v14_2 : FVec Ideal S64x1 .f32) (ix2 r 0) := by
  have e : after hostOps2 V main_v16 = shapeCast S64 (V main_v14_2 : FVec Ideal S64x1 .f32) shapeCasts_S64x1_S64 := by
    after_results_simp_entrywise
    rfl
  rw [e]
  pointwise

/-- An entry of the first layer's bias. -/
theorem biasOf_apply (b1 : FVec Ideal S256 .f32) (p : FVec Ideal S1x256 .f32) (u : Fin 256) :
    biasOf b1 p (ix2 0 u) = b1 (ix1 u) + p (ix2 0 u) := by
  pointwise [biasOf]
/-- An entry of the second layer's bias. -/
theorem rowBias_apply (b2 : FVec Ideal S100000 .f32) (c : Fin 100000) : rowBias b2 (ix2 0 c) = b2 (ix1 c) := by
  pointwise [rowBias]

end Cert.KernelIdeal.Value

end
-- ==== Proof.RefRow.lean ====
module

public import proofs.«01_k».proof.Proof.RefValue
public import proofs.«01_k».proof.Proof.PayIdeal

/-! # The reference's results, entry by entry -/

@[expose] public section

set_option maxRecDepth 16384

noncomputable section

namespace Cert.ReferenceIdeal.Host

open Cert.ReferenceIdeal Cert.ReferenceIdeal.Gen Cert.Online
open Idealize.ShloMosaic Idealize.ShloMosaic.TcCoe Idealize.ShloMosaic.StableHlo

/-- A logit. -/
theorem logitsOf_apply (x : FVec Ideal S64x1088 .f32) (p : FVec Ideal S1x256 .f32) (w1 : FVec Ideal S1088x256 .f32) (b1 : FVec Ideal S256 .f32)
    (w2 : FVec Ideal S256x100000 .f32) (b2 : FVec Ideal S100000 .f32) (r : Fin 64) (c : Fin 100000) :
    logitsOf x p w1 b1 w2 b2 (ix2 r c)
      = (∑ u : Fin 256, max ((∑ k : Fin 1088, x (ix2 r k) * w1 (ix2 k u)) + (b1 (ix1 u) + p (ix2 0 u))) 0 * w2 (ix2 u c)) + b2 (ix1 c) := by
  pointwise [logitsOf]
  simp only [add_assoc]

/-- A row of an array, −∞ past its end. -/
def rowOf (L : FVec Ideal S64x100000 .f32) (r : Fin 64) (n : ℕ) : EReal := if h : n < 100000 then L (ix2 r ⟨n, h⟩) else ⊥

/-- An entry of a row. -/
theorem rowOf_val (L : FVec Ideal S64x100000 .f32) (r : Fin 64) (c : Fin 100000) : rowOf L r c.val = L (ix2 r c) := by
  unfold rowOf; rw [dif_pos c.isLt]

/-- A row's maximum. -/
theorem maxOf_apply (L : FVec Ideal S64x100000 .f32) (r : Fin 64) : maxOf L (ix1 r) = mx (rowOf L r) 100000 := by
  pointwise [maxOf]
  rw [Cert.KernelIdeal.Value.ofBits_neg_inf, ← Cert.KernelIdeal.Value.fold_max_range]
  simp only [rowOf_val]
/-- A row's sum. -/
theorem sumOf_apply (L : FVec Ideal S64x100000 .f32) (r : Fin 64) : sumOf L (ix1 r) = ∑ c : Fin 100000, L (ix2 r c) := by
  pointwise [sumOf]
/-- Against −∞ a vector is its own maximum. -/
theorem max_const (a : FVec Ideal S64 .f32) :
    maximumf (broadcastInDim S64 ![] bcast_S_S64 (constant (F := Ideal) S_ .f32 0xFF800000#32)) a = a := by
  funext j
  change max (Ideal.ofBits .f32 0xFF800000#32) (a j) = a j
  rw [Cert.KernelIdeal.Value.ofBits_neg_inf]
  exact max_eq_right bot_le
/-- The maxima taken against −∞ are the maxima. -/
theorem maxOf'_eq (L : FVec Ideal S64x100000 .f32) : maxOf' L = maxOf L := max_const (maxOf L)
/-- An exponential. -/
theorem expsOf_apply (L : FVec Ideal S64x100000 .f32) (m : FVec Ideal S64 .f32) (r : Fin 64) (c : Fin 100000) :
    expsOf L m (ix2 r c) = Ideal.exp (L (ix2 r c) - m (ix1 r)) := by
  pointwise [expsOf]
/-- The sum of a row's exponentials. -/
theorem sum_exps (L : FVec Ideal S64x100000 .f32) (r : Fin 64) :
    sumOf (expsOf L (maxOf L)) (ix1 r) = se (rowOf L r) (mx (rowOf L r) 100000) 100000 := by
  rw [sumOf_apply, ← Cert.KernelIdeal.Value.sum_exp_range]
  simp only [expsOf_apply, maxOf_apply, rowOf_val]
/-- A quotient by a column, entry by entry. -/
theorem divf_column (E : FVec Ideal S64x100000 .f32) (d : FVec Ideal S64 .f32) (r : Fin 64) (c : Fin 100000) :
    Host.divf E (broadcastInDim S64x100000 ![0, 1] bcast_S64x1_S64x100000_0_1 (broadcastInDim S64x1 ![0] bcast_S64_S64x1_0 d)) (ix2 r c)
      = Ideal.div (E (ix2 r c)) (d (ix1 r)) := by
  pointwise
/-- A sum with a logarithm, and a sum with a difference, entry by entry. -/
theorem add_log (a b : FVec Ideal S64 .f32) (j) : addf a (Host.log b) j = a j + Ideal.log (b j) := rfl
theorem add_sub (a : IVec S64 32) (b : FVec Ideal S64 .f32) (j) :
    addf (sitofp .f32 a) (subf b b) j = (((a j).toInt : ℝ) : EReal) + (b j - b j) := rfl

section
variable {L : FVec Ideal S64x100000 .f32} {r : Fin 64} (h : Row 100000 (rowOf L r))
include h

/-- A probability: the exponential of a logit less the row's log-sum-exp. -/
theorem probsOf_apply (c : Fin 100000) :
    probsOf L (ix2 r c) = Ideal.exp (L (ix2 r c)
      - (mx (rowOf L r) 100000 + Ideal.log (se (rowOf L r) (mx (rowOf L r) 100000) 100000))) := by
  unfold probsOf
  rw [divf_column, maxOf'_eq, sum_exps, expsOf_apply, maxOf_apply, ← rowOf_val L r c]
  refine Eq.trans ?_ (h.softmax (by norm_num) c.isLt).symm
  obtain ⟨s, hs, e⟩ := h.real_se (by norm_num)
  rw [e, Ideal.div_coe hs.ne', one_div, EReal.coe_inv, div_eq_mul_inv]

/-- The log-sum-exp is a real number. -/
theorem lseOf_real : ∃ s : ℝ, lseOf L (ix1 r) = s := by
  obtain ⟨m, hm⟩ := h.real_mx (by norm_num) (show 0 < 100000 by norm_num)
  obtain ⟨s, hs, e⟩ := h.real_se (by norm_num)
  refine ⟨m + Real.log s, ?_⟩
  unfold lseOf
  rw [add_log, sum_exps, maxOf_apply, e, hm, log_coe hs, EReal.coe_add]

/-- An action: the place of the row's first maximum. -/
theorem actionsOf_apply : actionsOf L (ix1 r) = (((hardOf L (ix1 r)).toInt : ℝ) : EReal) := by
  obtain ⟨s, hs⟩ := lseOf_real h
  unfold actionsOf
  rw [add_sub, hs, ← EReal.coe_sub, sub_self, EReal.coe_zero, add_zero]
end

end Cert.ReferenceIdeal.Host

end
-- ==== Proof.FiniteIdeal.lean ====
module

public import proofs.«01_k».proof.Proof.HostIdeal
public import proofs.«01_k».proof.Proof.RefRow
public import proofs.«01_k».proof.Defs

/-! # Finite arguments give real logits -/

@[expose] public section

set_option maxRecDepth 16384

noncomputable section

namespace Cert.Pre_finite

open Idealize.ShloMosaic

/-- The shape relations the precondition's operations take. -/
theorem facts : Facts where
  bcast_S_S64x1024 := by decide
  bcast_S_S64x32 := by decide
  bcast_S_S1088x256 := by decide
  bcast_S_S256 := by decide
  bcast_S_S256x100000 := by decide
  bcast_S_S100000 := by decide
  bcast_S_S32x256 := by decide

end Cert.Pre_finite

namespace Cert.Finite

open Idealize.ShloMosaic

/-- A value is a real number. -/
def IsReal (a : EReal) : Prop := ∃ r : ℝ, a = r

/-- Sums, products, maxima and finite sums of real numbers are real. -/
theorem IsReal.add {a b : EReal} : IsReal a → IsReal b → IsReal (a + b) := by
  rintro ⟨x, rfl⟩ ⟨y, rfl⟩; exact ⟨x + y, (EReal.coe_add x y).symm⟩
theorem IsReal.mul {a b : EReal} : IsReal a → IsReal b → IsReal (a * b) := by
  rintro ⟨x, rfl⟩ ⟨y, rfl⟩; exact ⟨x * y, (EReal.coe_mul x y).symm⟩
theorem IsReal.zero : IsReal 0 := ⟨0, EReal.coe_zero.symm⟩
theorem IsReal.max {a b : EReal} (ha : IsReal a) (hb : IsReal b) : IsReal (max a b) := by
  rcases max_choice a b with h | h <;> rw [h]
  exacts [ha, hb]
theorem IsReal.sum {ι : Type} (s : Finset ι) {f : ι → EReal} (h : ∀ i, IsReal (f i)) : IsReal (∑ i ∈ s, f i) := by
  classical
  induction s using Finset.induction_on with
  | empty => rw [Finset.sum_empty]; exact .zero
  | insert a s ha ih => rw [Finset.sum_insert ha]; exact (h a).add ih

/-- The word of +∞ is +∞. -/
theorem ofBits_inf : Ideal.ofBits .f32 0x7F800000#32 = ⊤ := by
  simp [Ideal.ofBits, Ideal.ieee]

/-- Below +∞ in magnitude is real. -/
theorem isReal_of_lt {a : EReal} (h : max a (-a) < ⊤) : IsReal a := by
  have h1 : a ≠ ⊤ := fun e => by rw [e] at h; exact absurd h (by simp)
  have h2 : a ≠ ⊥ := fun e => by rw [e] at h; exact absurd h (by simp)
  exact ⟨a.toReal, (EReal.coe_toReal h1 h2).symm⟩

/-- Where the magnitudes of an array are all below +∞, its entries are real. -/
theorem isReal_of_abs {s : Shape} (x : FVec Ideal s .f32) {u : Shape} {d : Fin u.rank → Fin s.rank} (hb : u.BroadcastsInDim s d)
    (h : cmpf .olt (Host.absf x) (broadcastInDim s d hb (constant (F := Ideal) u .f32 0x7F800000#32)) = fun _ => 1#1) (i : s.Idx) : IsReal (x i) := by
  have h1 := congrFun h i
  have h2 : Ideal.cmp .olt (max (x i) (-(x i))) (Ideal.ofBits .f32 0x7F800000#32) = 1#1 := h1
  rw [ofBits_inf] at h2
  apply isReal_of_lt
  by_contra hn
  have h3 : Ideal.cmp .olt (max (x i) (-(x i))) ⊤ = 0#1 := by
    unfold Ideal.cmp
    simp only [decide_eq_false hn]
    rfl
  rw [h3] at h2
  exact absurd h2 (by decide)

end Cert.Finite

namespace Cert.Pre_finite

open Idealize.ShloMosaic Cert.Finite

/-- Where every test of the precondition is one, every float argument's entries are real. -/
theorem reals [hF : Facts] (a0 : FVec Ideal S64x1024 .f32) (a1 : FVec Ideal S64x32 .f32) (a2 : IVec S64x32 1) (a3 : IVec S_ 32)
    (a4 : FVec Ideal S1088x256 .f32) (a5 : FVec Ideal S256 .f32) (a6 : FVec Ideal S256x100000 .f32) (a7 : FVec Ideal S100000 .f32)
    (a8 : FVec Ideal S32x256 .f32)
    (h0 : (fn (F := Ideal) a0 a1 a2 a3 a4 a5 a6 a7 a8).1 = fun _ => 1#1)
    (h1 : (fn (F := Ideal) a0 a1 a2 a3 a4 a5 a6 a7 a8).2.1 = fun _ => 1#1)
    (h4 : (fn (F := Ideal) a0 a1 a2 a3 a4 a5 a6 a7 a8).2.2.1 = fun _ => 1#1)
    (h5 : (fn (F := Ideal) a0 a1 a2 a3 a4 a5 a6 a7 a8).2.2.2.1 = fun _ => 1#1)
    (h6 : (fn (F := Ideal) a0 a1 a2 a3 a4 a5 a6 a7 a8).2.2.2.2.1 = fun _ => 1#1)
    (h7 : (fn (F := Ideal) a0 a1 a2 a3 a4 a5 a6 a7 a8).2.2.2.2.2.1 = fun _ => 1#1)
    (h8 : (fn (F := Ideal) a0 a1 a2 a3 a4 a5 a6 a7 a8).2.2.2.2.2.2 = fun _ => 1#1) :
    (∀ i, IsReal (a0 i)) ∧ (∀ i, IsReal (a1 i)) ∧ (∀ i, IsReal (a4 i)) ∧ (∀ i, IsReal (a5 i)) ∧ (∀ i, IsReal (a6 i)) ∧ (∀ i, IsReal (a7 i))
      ∧ ∀ i, IsReal (a8 i) :=
  ⟨isReal_of_abs a0 hF.bcast_S_S64x1024 h0, isReal_of_abs a1 hF.bcast_S_S64x32 h1, isReal_of_abs a4 hF.bcast_S_S1088x256 h4,
    isReal_of_abs a5 hF.bcast_S_S256 h5, isReal_of_abs a6 hF.bcast_S_S256x100000 h6, isReal_of_abs a7 hF.bcast_S_S100000 h7,
    isReal_of_abs a8 hF.bcast_S_S32x256 h8⟩

end Cert.Pre_finite

namespace Cert.ReferenceIdeal.Host

open Cert.ReferenceIdeal Cert.ReferenceIdeal.Gen Cert.Finite
open Idealize.ShloMosaic Idealize.ShloMosaic.TcCoe Idealize.ShloMosaic.StableHlo

/-- The features of a real context and forecast are real. -/
theorem feats_real {ctx : FVec Ideal S64x1024 .f32} {fc : FVec Ideal S64x32 .f32} (mk : IVec S64x32 1) (h0 : ∀ i, IsReal (ctx i))
    (h1 : ∀ i, IsReal (fc i)) (j) : IsReal (feats ctx fc mk j) := by
  have hm : ∀ i : S64x32.Idx, IsReal (uitofp (F := Ideal) .f32 mk i) := fun i => ⟨((mk i).toNat : ℝ), rfl⟩
  unfold feats
  refine concatenate_forall (P := IsReal) _ _ _ _ (fun p hp i => ?_) j
  rcases List.mem_cons.1 hp with rfl | hp
  · exact h0 i
  rcases List.mem_cons.1 hp with rfl | hp
  · exact (h1 i).mul (hm i)
  rcases List.mem_cons.1 hp with rfl | hp
  · exact hm i
  · exact absurd hp (by simp)

/-- The embedding is real where the table is. -/
theorem embed_real {st : IVec S_ 32} {pe : FVec Ideal S32x256 .f32} (h : ∀ i, IsReal (pe i)) (j) : IsReal (embed st pe j) := by
  unfold embed
  rw [Host.dynamicSlice_apply]
  exact h _

/-- The logits are real where everything they are made from is. -/
theorem logitsOf_real {x : FVec Ideal S64x1088 .f32} {p : FVec Ideal S1x256 .f32} {w1 : FVec Ideal S1088x256 .f32} {b1 : FVec Ideal S256 .f32}
    {w2 : FVec Ideal S256x100000 .f32} {b2 : FVec Ideal S100000 .f32} (hx : ∀ i, IsReal (x i)) (hp : ∀ i, IsReal (p i)) (hw1 : ∀ i, IsReal (w1 i))
    (hb1 : ∀ i, IsReal (b1 i)) (hw2 : ∀ i, IsReal (w2 i)) (hb2 : ∀ i, IsReal (b2 i)) (r : Fin 64) (c : Fin 100000) :
    IsReal (logitsOf x p w1 b1 w2 b2 (ix2 r c)) := by
  rw [logitsOf_apply]
  refine (IsReal.sum _ fun u => ?_).add (hb2 _)
  refine (IsReal.max ((IsReal.sum _ fun k => ?_).add ((hb1 _).add (hp _))) .zero).mul (hw2 _)
  exact (hx _).mul (hw1 _)

end Cert.ReferenceIdeal.Host

end
-- ==== Proof.RefBest.lean ====
module

public import proofs.«01_k».proof.Proof.RefRow

/-! # The reference's arg-max is the running best of a list of pairs -/

@[expose] public section

set_option maxRecDepth 16384

noncomputable section

namespace Cert.ReferenceIdeal.Host

open Cert.ReferenceIdeal Cert.ReferenceIdeal.Gen Cert.Online
open Idealize.ShloMosaic Idealize.ShloMosaic.TcCoe Idealize.ShloMosaic.StableHlo

/-- The reducer keeps the greater entry and, of two equal ones, the lower place. -/
theorem reducer_eq (a b : EReal) (i j : BitVec 32) :
    reducer_argmax_f32_i32 (F := Ideal) (a, i) (b, j)
      = (if b < a then a else b, if b < a ∨ (a = b ∧ i.toInt < j.toInt) then i else j) := by
  have e1 : FloatOps.cmpf (F := Ideal) (φ := .f32) .ogt a b = BitVec.ofBool (decide (b < a)) := by
    simp [Ideal.cmpf_def, Ideal.cmp]
  have e2 : FloatOps.cmpf (F := Ideal) (φ := .f32) .une a a = 0#1 := by
    simp [Ideal.cmpf_def, Ideal.cmp]
  have e3 : FloatOps.cmpf (F := Ideal) (φ := .f32) .oeq a b = BitVec.ofBool (decide (a = b)) := by
    simp [Ideal.cmpf_def, Ideal.cmp]
  have e4 : IntOp.cmpi .slt i j = BitVec.ofBool (decide (i.toInt < j.toInt)) := by
    change BitVec.ofBool (i.slt j) = _
    rw [BitVec.slt_eq_decide]
  unfold reducer_argmax_f32_i32
  dsimp only
  rw [e1, e2, e3, e4]
  by_cases h1 : b < a <;> by_cases h2 : a = b <;> by_cases h3 : i.toInt < j.toInt <;>
    simp [h1, h2, h3, IntOp.ori, IntOp.andi, Scalar.select]

/-- What a fold of the reducer over the entries `l` holds: their maximum, at the lowest of its places, or still the start. -/
structure Best {ι : Type} (x : ι → EReal) (y : ι → BitVec 32) (l : List ι) (s : Ideal .f32 × BitVec 32) : Prop where
  le : ∀ n ∈ l, x n ≤ s.1
  low : ∀ n ∈ l, x n = s.1 → s.2.toInt ≤ (y n).toInt
  from_ : s = (⊥, 0#32) ∨ ∃ n ∈ l, s = (x n, y n)

/-- One more pair keeps the best the best. -/
theorem Best.step {ι : Type} {x : ι → EReal} {y : ι → BitVec 32} {l : List ι} {s : Ideal .f32 × BitVec 32} (h : Best x y l s) (n : ι) :
    Best x y (l ++ [n]) (reducer_argmax_f32_i32 (F := Ideal) s (x n, y n)) := by
  obtain ⟨v, k⟩ := s
  obtain ⟨h1, h2, h3⟩ := h
  dsimp only at h1 h2
  rw [reducer_eq]
  refine ⟨fun p hp => ?_, fun p hp => ?_, ?_⟩
  · dsimp only
    rcases List.mem_append.1 hp with hp | hp
    · split
      · exact h1 p hp
      · rename_i hlt; exact (h1 p hp).trans (not_lt.1 hlt)
    · rw [List.mem_singleton.1 hp]
      split
      · rename_i hlt; exact hlt.le
      · exact le_rfl
  · dsimp only
    rcases List.mem_append.1 hp with hp | hp
    · by_cases hlt : x n < v
      · rw [if_pos hlt, if_pos (.inl hlt)]; exact h2 p hp
      · rw [if_neg hlt]
        intro e
        have hv : v = x n := le_antisymm (not_lt.1 hlt) (e ▸ h1 p hp)
        have hk := h2 p hp (e.trans hv.symm)
        by_cases hi : k.toInt < (y n).toInt
        · rw [if_pos (.inr ⟨hv, hi⟩)]; exact hk
        · rw [if_neg (by rintro (h | h); exacts [hlt h, hi h.2])]
          exact (not_lt.1 hi).trans hk
    · rw [List.mem_singleton.1 hp]
      by_cases hlt : x n < v
      · rw [if_pos hlt]; intro e; exact absurd e hlt.ne
      · intro _
        split
        · rename_i hc
          rcases hc with hc | hc
          · exact absurd hc hlt
          · exact hc.2.le
        · exact le_rfl
  · by_cases hlt : x n < v
    · rw [if_pos hlt, if_pos (.inl hlt)]
      rcases h3 with h3 | ⟨p, hp, h3⟩
      · exact .inl h3
      · exact .inr ⟨p, List.mem_append_left _ hp, h3⟩
    · rw [if_neg hlt]
      by_cases hc : v = x n ∧ k.toInt < (y n).toInt
      · rw [if_pos (.inr hc), ← hc.1]
        rcases h3 with h3 | ⟨p, hp, h3⟩
        · exact .inl h3
        · exact .inr ⟨p, List.mem_append_left _ hp, h3⟩
      · rw [if_neg (by rintro (h | h); exacts [hlt h, hc h])]
        exact .inr ⟨n, by simp, rfl⟩

/-- A fold keeps the best of the pairs. -/
theorem Best.foldl {ι : Type} {x : ι → EReal} {y : ι → BitVec 32} (l : List ι) : ∀ {l₀ : List ι} {s : Ideal .f32 × BitVec 32}, Best x y l₀ s →
    Best x y (l₀ ++ l) (l.foldl (fun s n => reducer_argmax_f32_i32 (F := Ideal) s (x n, y n)) s) := by
  induction l with
  | nil => intro l₀ s h; rw [List.append_nil]; exact h
  | cons n l ih =>
    intro l₀ s h
    rw [List.append_cons]
    exact ih (h.step n)

/-- The pairs a reduction folds at a place are the entries that drop to it. -/
theorem mem_fiber {s t : Shape} {axes : List (Fin s.rank)} {α β : Type} (x : s.Idx → α) (y : s.Idx → β) (h : s.ReducesTo axes t) (j : t.Idx)
    (p : α × β) : p ∈ Host.argReduceFiber x y h j ↔ ∃ i, h.drop i = j ∧ p = (x i, y i) := by
  unfold Host.argReduceFiber
  rw [List.mem_map]
  constructor
  · rintro ⟨n, hn, rfl⟩
    exact ⟨_, decide_eq_true_iff.1 (List.mem_filter.1 hn).2, rfl⟩
  · rintro ⟨i, hi, rfl⟩
    refine ⟨s.rowMajor i, ?_, ?_⟩
    · rw [List.mem_filter]
      refine ⟨List.mem_finRange _, ?_⟩
      rw [Equiv.symm_apply_apply, decide_eq_true_iff]
      exact hi
    · rw [Equiv.symm_apply_apply]

/-- An arg-max reduction from (−∞, 0): nothing it folds is greater, nothing as great has a lower place, and it is an entry or the start. -/
theorem argMax_best {s t u : Shape} {axes : List (Fin s.rank)} (x : FVec Ideal s .f32) (y : s.Idx → BitVec 32) (b : FVec Ideal u .f32) (k : u.Idx → BitVec 32)
    (h : s.ReducesTo axes t) (hu : 0 < u.numel) (hb : b (Shape.Idx.first hu) = (⊥ : EReal)) (hk : k (Shape.Idx.first hu) = 0#32) (j : t.Idx) :
    Best (Prod.fst : Ideal .f32 × BitVec 32 → EReal) Prod.snd (Host.argReduceFiber x y h j)
      (Host.argReduce reducer_argmax_f32_i32 x y b k h hu j) := by
  rw [Ideal.argReduce_eq_reduce2, Host.reduce2_eq_foldl_fiber, hb, hk]
  have := Best.foldl (x := (Prod.fst : Ideal .f32 × BitVec 32 → EReal)) (y := Prod.snd) (Host.argReduceFiber x y h j)
    (l₀ := []) (s := (⊥, 0#32)) ⟨fun _ h => absurd h (by simp), fun _ h => absurd h (by simp), .inl rfl⟩
  rw [List.nil_append] at this
  exact this

/-- What is nowhere less than a real row, with the lowest place among the equals, and is an entry of the row or (−∞, 0), is at the row's arg-max. -/
theorem Best.at_first {N : ℕ} {x : ℕ → EReal} (hN : 0 < N) (hN' : N ≤ 2147483648) (hx : Row N x) {l : List (Ideal .f32 × BitVec 32)} {s : Ideal .f32 × BitVec 32}
    (hB : Best (Prod.fst : Ideal .f32 × BitVec 32 → EReal) Prod.snd l s) (hl : ∀ p, p ∈ l ↔ ∃ c, c < N ∧ p = (x c, BitVec.ofNat 32 c)) :
    s.2 = BitVec.ofNat 32 (am x N) := by
  have le : ∀ c, c < N → x c ≤ s.1 := fun c h => hB.le _ ((hl _).2 ⟨c, h, rfl⟩)
  have low : ∀ c, c < N → x c = s.1 → s.2.toInt ≤ (BitVec.ofNat 32 c).toInt := fun c h e =>
    hB.low _ ((hl _).2 ⟨c, h, rfl⟩) e
  have hs : ∃ c, c < N ∧ s = (x c, BitVec.ofNat 32 c) := by
    rcases hB.from_ with e | ⟨p, hp, e⟩
    · have h0 := le 0 hN
      rw [e] at h0
      obtain ⟨r, hr⟩ := hx.fin 0 hN
      rw [hr] at h0
      exact absurd (le_bot_iff.1 h0) (EReal.coe_ne_bot r)
    · obtain ⟨c, hc, rfl⟩ := (hl _).1 hp
      exact ⟨c, hc, e⟩
  obtain ⟨c, hc, rfl⟩ := hs
  have hm : mx x N = x c := le_antisymm (mx_le _ fun d hd => le d hd) (le_mx _ hc)
  have hF : First x N c := ⟨hc, hm.symm, fun d hd e => by
    have h3 : (BitVec.ofNat 32 c).toInt ≤ (BitVec.ofNat 32 d).toInt := low d (hd.trans hc) (e.trans hm)
    rw [Cert.KernelIdeal.Value.toInt_ofNat (by omega), Cert.KernelIdeal.Value.toInt_ofNat (by omega)] at h3
    omega⟩
  rw [hF.am_eq]

/-- The places an arg-max reduction leaves. -/
def hardAt {s t u : Shape} {axes : List (Fin s.rank)} (x : FVec Ideal s .f32) (y : s.Idx → BitVec 32) (b : FVec Ideal u .f32) (k : u.Idx → BitVec 32)
    (h : s.ReducesTo axes t) (hu : 0 < u.numel) (j : t.Idx) : BitVec 32 :=
  (Host.argReduce reducer_argmax_f32_i32 x y b k h hu j).2

/-- Where the entries folded at a place are a real row with its places, an arg-max reduction from (−∞, 0) leaves the row's arg-max. -/
theorem hardAt_eq {s t u : Shape} {axes : List (Fin s.rank)} {x : FVec Ideal s .f32} {y : s.Idx → BitVec 32} {b : FVec Ideal u .f32}
    {k : u.Idx → BitVec 32} {h : s.ReducesTo axes t} {hu : 0 < u.numel} (hb : b (Shape.Idx.first hu) = (⊥ : EReal))
    (hk : k (Shape.Idx.first hu) = 0#32) {j : t.Idx} {N : ℕ} {X : ℕ → EReal} (hN : 0 < N) (hN' : N ≤ 2147483648) (hx : Row N X)
    (hm : ∀ p, p ∈ Host.argReduceFiber x y h j ↔ ∃ c, c < N ∧ p = (X c, BitVec.ofNat 32 c)) :
    hardAt x y b k h hu j = BitVec.ofNat 32 (am X N) := by
  have hB := argMax_best x y b k h hu hb hk j
  unfold hardAt
  exact hB.at_first hN hN' hx hm

end Cert.ReferenceIdeal.Host

end
-- ==== Proof.RefHard.lean ====
module

public import proofs.«01_k».proof.Proof.RefBest

/-! # The reference's arg-max is the place of the row's first maximum -/

@[expose] public section

set_option maxRecDepth 16384

noncomputable section

namespace Cert.ReferenceIdeal.Host

open Cert.ReferenceIdeal Cert.ReferenceIdeal.Gen Cert.Online
open Idealize.ShloMosaic Idealize.ShloMosaic.TcCoe Idealize.ShloMosaic.StableHlo

/-- The places of a row. -/
theorem drop_row (i : S64x100000.Idx) (r : Fin 64) :
    reducesTo_S64x100000_S64_d1.drop i = ix1 r ↔ ∃ c : Fin 100000, i = ix2 r c := by
  have hv : (reducesTo_S64x100000_S64_d1.drop i 0 : Nat) = i 0 := Shape.ReducesTo.drop_apply_val reducesTo_S64x100000_S64_d1 i 0
  constructor
  · intro h
    refine ⟨i 1, ?_⟩
    have h0 : i 0 = r := Fin.ext (by rw [← hv, h]; rfl)
    rw [← h0]
    exact (ix2_eta (n0 := 64) (n1 := 100000) i).symm
  · rintro ⟨c, rfl⟩
    funext b
    have hb : b = 0 := Subsingleton.elim (α := Fin 1) b 0
    subst hb
    exact Fin.ext hv

variable (L : FVec Ideal S64x100000 .f32) (y : S64x100000.Idx → BitVec 32)

/-- The pairs the reference folds for a row: each entry with its place. -/
theorem mem_row (hy : ∀ (r : Fin 64) (c : Fin 100000), y (ix2 r c) = BitVec.ofNat 32 c.val) (r : Fin 64) (p : EReal × BitVec 32) :
    p ∈ Host.argReduceFiber L y reducesTo_S64x100000_S64_d1 (ix1 r) ↔ ∃ c, c < 100000 ∧ p = (rowOf L r c, BitVec.ofNat 32 c) := by
  rw [mem_fiber]
  constructor
  · rintro ⟨i, hi, rfl⟩
    obtain ⟨c, rfl⟩ := (drop_row i r).1 hi
    exact ⟨c.val, c.isLt, by rw [rowOf_val, hy]⟩
  · rintro ⟨c, hc, rfl⟩
    exact ⟨ix2 r ⟨c, hc⟩, (drop_row _ r).2 ⟨⟨c, hc⟩, rfl⟩, by rw [hy, ← rowOf_val L r ⟨c, hc⟩]⟩

/-- The reference's arg-max is that reduction. -/
theorem hardOf_eq (j : S64.Idx) : hardOf L j = hardAt L (iotaInDim S64x100000 32 1) (constant (F := Ideal) S_ .f32 0xFF800000#32) (constantI S_ 32 0#32)
    reducesTo_S64x100000_S64_d1 h_S_ j := rfl

/-- The reduction starts at −∞ and place zero. -/
theorem start_val (i : S_.Idx) : constant (F := Ideal) S_ .f32 0xFF800000#32 i = (⊥ : EReal) := Cert.KernelIdeal.Value.ofBits_neg_inf
theorem start_at (i : S_.Idx) : constantI S_ 32 0#32 i = 0#32 := rfl

/-- The reference's first maximum of a row is at the row's arg-max. -/
theorem hardOf_apply {L : FVec Ideal S64x100000 .f32} {r : Fin 64} (h : Row 100000 (rowOf L r)) :
    hardOf L (ix1 r) = BitVec.ofNat 32 (am (rowOf L r) 100000) := by
  have hm := mem_row L (iotaInDim S64x100000 32 1) (fun _ _ => rfl) r
  rw [hardOf_eq]
  exact hardAt_eq (start_val _) (start_at _) (by norm_num) (by norm_num) h hm

end Cert.ReferenceIdeal.Host

end
-- ==== Proof.EquationIdeal.lean ====
module

public import proofs.«01_k».proof.Proof.FiniteIdeal
public import proofs.«01_k».proof.Proof.RefHard

/-! # The kernel's results are the reference's -/

@[expose] public section

set_option maxRecDepth 16384

noncomputable section

namespace Cert.KernelIdeal.Value

open Cert.KernelIdeal Cert.KernelIdeal.Gen Cert.KernelIdeal.Regions Cert.Online Cert.Finite
open Cert.ReferenceIdeal.Host (feats embed logitsOf logitsOf_apply logitsOf_real rowOf probsOf probsOf_apply actionsOf actionsOf_apply hardOf_apply
  feats_real embed_real)
open Idealize.ShloMosaic Idealize.ShloMosaic.TcCoe Idealize.ShloMosaic.StableHlo

/-- The reference's logits of the arguments in `V`. -/
def LV (V : Valuation τ sig (Elt Ideal)) : FVec Ideal Cert.ReferenceIdeal.S64x100000 .f32 :=
  logitsOf (feats (V main_arg0) (V main_arg1) (V main_arg2)) (embed (V main_arg3) (V main_arg8)) (V main_arg4) (V main_arg5)
    (V main_arg6) (V main_arg7)

/-- A logit of the kernel is the reference's. -/
theorem Lg_eq (V : Valuation τ sig (Elt Ideal)) (r : Fin 64) (c : Fin 100000) : Lg (after hostOps0 V) r c = LV V (ix2 r c) := by
  unfold Lg hV LV
  rw [feats_read, bias_read, rowBias_read, logitsOf_apply,
    after_of_writes_sub hostOps0 V hostOps0_writes (r := main_arg4) (by decide),
    after_of_writes_sub hostOps0 V hostOps0_writes (r := main_arg6) (by decide)]
  simp only [pay7_apply, biasOf_apply, rowBias_apply]

/-- A row of the kernel's logits is the reference's. -/
theorem XV_eq (V : Valuation τ sig (Elt Ideal)) (r : Fin 64) : XV (after hostOps0 V) r = rowOf (LV V) r := by
  funext n
  unfold XV rowOf
  simp only [Lg_eq]

/-- The rows of the reference's logits are real where the float arguments are. -/
theorem row_LV {V : Valuation τ sig (Elt Ideal)} (h0 : ∀ i, IsReal ((V main_arg0 : FVec Ideal S64x1024 .f32) i))
    (h1 : ∀ i, IsReal ((V main_arg1 : FVec Ideal S64x32 .f32) i)) (h4 : ∀ i, IsReal ((V main_arg4 : FVec Ideal S1088x256 .f32) i))
    (h5 : ∀ i, IsReal ((V main_arg5 : FVec Ideal S256 .f32) i)) (h6 : ∀ i, IsReal ((V main_arg6 : FVec Ideal S256x100000 .f32) i))
    (h7 : ∀ i, IsReal ((V main_arg7 : FVec Ideal S100000 .f32) i)) (h8 : ∀ i, IsReal ((V main_arg8 : FVec Ideal S32x256 .f32) i)) (r : Fin 64) :
    Row 100000 (rowOf (LV V) r) where
  fin c hc := by
    unfold rowOf
    rw [dif_pos hc]
    exact logitsOf_real (feats_real _ h0 h1) (embed_real h8) h4 h5 h6 h7 r ⟨c, hc⟩
  bot c hc := by
    unfold rowOf
    rw [dif_neg (Nat.not_lt.2 hc)]

variable (m : (ℓ : Loc nD τ sig) → Buf (Elt Ideal) ℓ) (c : Dev nD)

/-- The kernel ends with the reference's logits. -/
theorem logits_eq : Vr4 m c main_v14_0 = LV (V0 m c) := by
  unfold Vr4
  rw [after_of_writes_sub hostOps2 (Vr3 m c) hostOps2_writes (r := main_v14_0) (by decide)]
  unfold Vr3 next1
  rw [mk1_of _ _ _ _ (devRef_ne_of_ne (by decide))]
  unfold Vr2
  rw [next0_5]
  funext i
  exact (Lg_eq (V0 m c) (i 0) (i 1)).trans (congrArg (LV (V0 m c)) (ix2_eta (n0 := 64) (n1 := 100000) i))

/-- The column of the rows' log-sum-exps. -/
theorem lse_eq {r : Fin 64} (h : Row 100000 (rowOf (LV (V0 m c)) r)) : G6 (V1 m c) (ix2 r 0)
    = mx (rowOf (LV (V0 m c)) r) 100000 + Ideal.log (se (rowOf (LV (V0 m c)) r) (mx (rowOf (LV (V0 m c)) r) 100000) 100000) := by
  unfold G6
  rw [pay5_eq]
  show mx (XV (after hostOps0 (V0 m c)) r) 102400 + Ideal.log (se (XV (after hostOps0 (V0 m c)) r) (mx (XV (after hostOps0 (V0 m c)) r) 102400) 102400) = _
  rw [XV_eq, h.se_end (by norm_num) (by norm_num), h.mx_end (by norm_num)]

/-- The kernel ends with the reference's probabilities. -/
theorem probs_eq (h : ∀ r, Row 100000 (rowOf (LV (V0 m c)) r)) : Vr4 m c main_v15 = probsOf (LV (V0 m c)) := by
  unfold Vr4
  rw [after_of_writes_sub hostOps2 (Vr3 m c) hostOps2_writes (r := main_v15) (by decide)]
  unfold Vr3
  rw [next1_2]
  unfold G2
  have e5 : Vr2 m c main_v14_0 = G5 (V1 m c) := by unfold Vr2; rw [next0_5]
  have e6 : Vr2 m c main_v14_1 = G6 (V1 m c) := by unfold Vr2; rw [next0_6]
  rw [e5, e6]
  have key : ∀ (r : Fin 64) (n : Fin 100000), expSub (G5 (V1 m c)) (G6 (V1 m c)) (ix2 r n) = probsOf (LV (V0 m c)) (ix2 r n) := fun r n => by
    rw [probsOf_apply (h r), ← lse_eq m c (h r), ← Lg_eq]
    rfl
  funext i
  have e := key (i 0) (i 1)
  have hi : ix2 (n0 := 64) (n1 := 100000) (i 0) (i 1) = i := ix2_eta i
  rwa [hi] at e

/-- The kernel ends with the reference's actions. -/
theorem actions_eq (h : ∀ r, Row 100000 (rowOf (LV (V0 m c)) r)) : Vr4 m c main_v16 = actionsOf (LV (V0 m c)) := by
  have key : ∀ r : Fin 64, (Vr4 m c main_v16 : FVec Ideal S64 .f32) (ix1 r) = actionsOf (LV (V0 m c)) (ix1 r) := fun r => by
    rw [actionsOf_apply (h r), hardOf_apply (h r)]
    unfold Vr4
    rw [actions_read]
    unfold Vr3 next1
    rw [mk1_of _ _ _ _ (devRef_ne_of_ne (by decide))]
    unfold Vr2
    rw [next0_7]
    show (((BitVec.ofNat 32 (am (XV (after hostOps0 (V0 m c)) r) 102400)).toInt : ℝ) : EReal) = _
    rw [XV_eq, (h r).am_end (by norm_num) (by norm_num)]
  funext i
  have hi : ix1 (n0 := 64) (i 0) = i := by
    funext b
    have hb : b = 0 := Subsingleton.elim (α := Fin 1) b 0
    subst hb
    rfl
  have e := key (i 0)
  rwa [hi] at e

end Cert.KernelIdeal.Value

end
-- ==== Proof.AlgebraicIdeal.lean ====
module

public import proofs.«01_k».proof.Proof.EquationIdeal

/-! # The kernel's results and the reference's are equal -/

@[expose] public section

set_option maxRecDepth 16384

noncomputable section

namespace Cert.Proof

open Cert.Finite Cert.Online Cert.KernelIdeal.Value Cert.KernelIdeal.Gen
open Cert.ReferenceIdeal.Host (rowOf probsOf actionsOf VD logits_read logits_end probs_end actions_end keeps)
open Idealize.ShloMosaic Idealize.ShloMosaic.TcCoe Idealize.ShloMosaic.StableHlo Idealize.SL.Sem

/-- Where the precondition holds the rows of the reference's logits are real. -/
theorem rows_real (m : (ℓ : Loc Cert.KernelIdeal.nD Cert.KernelIdeal.τ Cert.KernelIdeal.sig) → Buf (Elt Ideal) ℓ)
    (h : Cert.Pre_KernelIdeal_finite (hPre_finite := Cert.Pre_finite.facts) m) (c : Dev Cert.KernelIdeal.nD) (r : Fin 64) :
    Row 100000 (rowOf (LV (V0 m c)) r) := by
  obtain ⟨h0, h1, h4, h5, h6, h7, h8⟩ := h c
  obtain ⟨r0, r1, r4, r5, r6, r7, r8⟩ := Cert.Pre_finite.reals (hF := Cert.Pre_finite.facts) _ _ _ _ _ _ _ _ _ h0 h1 h4 h5 h6 h7 h8
  exact row_LV (V := V0 m c) r0 r1 r4 r5 r6 r7 r8 r

/-- On finite arguments the kernel's actions, probabilities and logits, at the extended reals, are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := fun m g m' g' hpre harg => by
  have hrow := rows_real m hpre
  have hL : ∀ c : Dev Cert.KernelIdeal.nD, Cert.ReferenceIdeal.Host.VA (launchContents m' c) Cert.ReferenceIdeal.main_v22 = LV (V0 m c) := fun c => by
    obtain ⟨e0, e1, e2, e3, e4, e5, e6, e7, e8⟩ := harg c
    rw [logits_read]
    unfold LV
    congr 1
    · exact congr (congr (congrArg _ e0) e1) e2
    · exact congr (congrArg _ e3) e8
  refine ⟨fun c => actionsOf (LV (V0 m c)), fun c => probsOf (LV (V0 m c)), fun c => LV (V0 m c), ?_, ?_⟩
  · refine (θ_run _ _ _).mono (fun r h c => ?_) (Cert.KernelIdeal.Value.run_main m (fun c r => by
      have e := XV_eq (V0 m c) r
      have hr := hrow c r
      rw [← e] at hr
      exact hr) g)
    have k : ∀ b ∈ Cert.KernelIdeal.Regions.argRefs, (Proc.devRef .tc b : DevRef Cert.KernelIdeal.τ Cert.KernelIdeal.sig).isScoped = false →
        r.2.mem ((c.tc : Thread Cert.KernelIdeal.nD Cert.KernelIdeal.τ).loc b) = m ((c.tc : Thread Cert.KernelIdeal.nD Cert.KernelIdeal.τ).loc b) :=
      fun b hb hs => (h c b hs).trans (Vr4_args m c b hb)
    refine ⟨(h c _ (by decide)).trans (actions_eq m c (hrow c)), (h c _ (by decide)).trans (probs_eq m c (hrow c)),
      (h c _ (by decide)).trans (logits_eq m c), ?_⟩
    exact ⟨k _ (by decide) (by decide), k _ (by decide) (by decide), k _ (by decide) (by decide), k _ (by decide) (by decide), k _ (by decide) (by decide), k _ (by decide) (by decide), k _ (by decide) (by decide), k _ (by decide) (by decide), k _ (by decide) (by decide)⟩
  · refine (θ_run _ _ _).mono (fun r h c => ?_) (Cert.ReferenceIdeal.Host.run_main (F := Ideal) m' g')
    have k (b : Ref Cert.ReferenceIdeal.sig .tc) (hA : b ∉ Cert.ReferenceIdeal.Host.logitsOpsW) (hB : b ∉ Cert.ReferenceIdeal.Host.probsOpsW)
        (hC : b ∉ Cert.ReferenceIdeal.Host.argOpsW) (hD : b ∉ Cert.ReferenceIdeal.Host.actOpsW) :
        r.2.mem ((c.tc : Thread Cert.ReferenceIdeal.nD Cert.ReferenceIdeal.τ).loc b) = m' ((c.tc : Thread Cert.ReferenceIdeal.nD Cert.ReferenceIdeal.τ).loc b) :=
      (h.1 c b).trans (keeps (F := Ideal) _ b hA hB hC hD)
    refine ⟨(h.1 c _).trans ((actions_end _).trans (congrArg actionsOf (hL c))), (h.1 c _).trans ((probs_end _).trans (congrArg probsOf (hL c))),
      (h.1 c _).trans ((logits_end _).trans (hL c)), ?_⟩
    exact ⟨k _ (by decide) (by decide) (by decide) (by decide), k _ (by decide) (by decide) (by decide) (by decide), k _ (by decide) (by decide) (by decide) (by decide), k _ (by decide) (by decide) (by decide) (by decide), k _ (by decide) (by decide) (by decide) (by decide), k _ (by decide) (by decide) (by decide) (by decide), k _ (by decide) (by decide) (by decide) (by decide), k _ (by decide) (by decide) (by decide) (by decide), k _ (by decide) (by decide) (by decide) (by decide)⟩

end Cert.Proof

end
-- ==== Proof.lean ====
/-
  The proof of `Cert.Claim`: each program's frame, that the idealized kernel is the printed one, and that its results
  are the reference's.
-/
module

public import proofs.«01_k».proof.Defs
public import proofs.«01_k».proof.Proof.FrameKernel
public import proofs.«01_k».proof.Proof.FrameKernelIdeal
public import proofs.«01_k».proof.Proof.RefRun
public import proofs.«01_k».proof.Proof.AlgebraicIdeal

@[expose] public section

noncomputable section

namespace Cert.Proof

open Idealize.ShloMosaic Idealize.SL.Sem

/-- The reference runs, ends with its arguments as launched and with every semaphore at zero. -/
theorem frame_reference : Cert.quiescent_ReferenceIdeal (hReferenceIdeal := Cert.ReferenceIdeal.Gen.facts) := fun m g _ =>
  (θ_run _ _ _).mono (fun r h => ⟨fun c =>
    have k (b : Ref Cert.ReferenceIdeal.sig .tc) (hA : b ∉ Cert.ReferenceIdeal.Host.logitsOpsW) (hB : b ∉ Cert.ReferenceIdeal.Host.probsOpsW)
        (hC : b ∉ Cert.ReferenceIdeal.Host.argOpsW) (hD : b ∉ Cert.ReferenceIdeal.Host.actOpsW) :
        r.2.mem ((c.tc : Thread Cert.ReferenceIdeal.nD Cert.ReferenceIdeal.τ).loc b) = m ((c.tc : Thread Cert.ReferenceIdeal.nD Cert.ReferenceIdeal.τ).loc b) :=
      (h.1 c b).trans (Cert.ReferenceIdeal.Host.keeps (F := Ideal) _ b hA hB hC hD)
    ⟨k Cert.ReferenceIdeal.main_arg0 (by decide) (by decide) (by decide) (by decide),
      k Cert.ReferenceIdeal.main_arg1 (by decide) (by decide) (by decide) (by decide),
      k Cert.ReferenceIdeal.main_arg2 (by decide) (by decide) (by decide) (by decide),
      k Cert.ReferenceIdeal.main_arg3 (by decide) (by decide) (by decide) (by decide),
      k Cert.ReferenceIdeal.main_arg4 (by decide) (by decide) (by decide) (by decide),
      k Cert.ReferenceIdeal.main_arg5 (by decide) (by decide) (by decide) (by decide),
      k Cert.ReferenceIdeal.main_arg6 (by decide) (by decide) (by decide) (by decide),
      k Cert.ReferenceIdeal.main_arg7 (by decide) (by decide) (by decide) (by decide),
      k Cert.ReferenceIdeal.main_arg8 (by decide) (by decide) (by decide) (by decide)⟩, h.2⟩)
    (Cert.ReferenceIdeal.Host.run_main (F := Ideal) m g)

/-- The conjunction of the claims. -/
theorem claim : Cert.Claim :=
  ⟨Cert.Kernel.Gen.facts, Cert.KernelIdeal.Gen.facts, Cert.ReferenceIdeal.Gen.facts, Cert.Pre_finite.facts,
    fun m g _ => Cert.Kernel.Regions.run_main m g,
    fun m g _ => Cert.KernelIdeal.Regions.run_main m g,
    fun m g _ => Cert.KernelIdeal.Regions.run_main m g,
    frame_reference,
    fun m g _ => frame_reference m g trivial,
    trivial,
    algebraic⟩

end Cert.Proof

end
